-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular_scene [hPre_regular_scene : Cert.Pre_regular_scene.Facts] (m : (ℓ : Loc Cert.KernelIdeal.nD Cert.KernelIdeal.τ Cert.KernelIdeal.sig) → Buf (Elt Ideal) ℓ) : Prop :=
  ∀ c : Dev Cert.KernelIdeal.nD,
    (Cert.Pre_regular_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_regular_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_regular_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_regular_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_regular_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_regular_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_regular_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_regular_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular_scene [hPre_regular_scene : Cert.Pre_regular_scene.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_regular_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_regular_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_regular_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_regular_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_regular_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_regular_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_regular_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_regular_scene [hKernelIdeal : Cert.KernelIdeal.Facts] [hPre_regular_scene : Cert.Pre_regular_scene.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular_scene m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_regular_scene [hReferenceIdeal : Cert.ReferenceIdeal.Facts] [hPre_regular_scene : Cert.Pre_regular_scene.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular_scene m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_regular_scene [hKernelIdeal : Cert.KernelIdeal.Facts] [hReferenceIdeal : Cert.ReferenceIdeal.Facts] [hPre_regular_scene : Cert.Pre_regular_scene.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular_scene m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_regular_scene : Cert.Pre_regular_scene.Facts),
    quiescent_Kernel (hKernel := hKernel)
    ∧ quiescent_KernelIdeal (hKernelIdeal := hKernelIdeal)
    ∧ quiescent_KernelIdeal_pre_regular_scene (hKernelIdeal := hKernelIdeal) (hPre_regular_scene := hPre_regular_scene)
    ∧ quiescent_ReferenceIdeal (hReferenceIdeal := hReferenceIdeal)
    ∧ quiescent_ReferenceIdeal_pre_regular_scene (hReferenceIdeal := hReferenceIdeal) (hPre_regular_scene := hPre_regular_scene)
    ∧ preserves_Kernel_KernelIdeal
    ∧ algebraic_KernelIdeal_ReferenceIdeal_pre_regular_scene (hKernelIdeal := hKernelIdeal) (hReferenceIdeal := hReferenceIdeal) (hPre_regular_scene := hPre_regular_scene)
-- ==== Pre_regular_scene.lean ====
abbrev S500x2 : Shape := ⟨2, ![500, 2]⟩
abbrev S50000x3 : Shape := ⟨2, ![50000, 3]⟩
abbrev S500 : Shape := ⟨1, ![500]⟩
abbrev S2x4950000 : Shape := ⟨2, ![2, 4950000]⟩
abbrev S4950000x4 : Shape := ⟨2, ![4950000, 4]⟩
abbrev S50000 : Shape := ⟨1, ![50000]⟩
abbrev S3 : Shape := ⟨1, ![3]⟩
abbrev S4950000 : Shape := ⟨1, ![4950000]⟩
abbrev S_ : Shape := ⟨0, ![]⟩
abbrev S1x4950000 : Shape := ⟨2, ![1, 4950000]⟩
abbrev S4950000x1 : Shape := ⟨2, ![4950000, 1]⟩
abbrev S500x1 : Shape := ⟨2, ![500, 1]⟩
abbrev S500x3 : Shape := ⟨2, ![500, 3]⟩
abbrev S500x1x3 : Shape := ⟨3, ![500, 1, 3]⟩
abbrev S500x3x3 : Shape := ⟨3, ![500, 3, 3]⟩
abbrev S50000x3x1 : Shape := ⟨3, ![50000, 3, 1]⟩
abbrev S50000x1 : Shape := ⟨2, ![50000, 1]⟩
abbrev S50000x3x3 : Shape := ⟨3, ![50000, 3, 3]⟩
abbrev S50000x3x2 : Shape := ⟨3, ![50000, 3, 2]⟩
abbrev S50000x2 : Shape := ⟨2, ![50000, 2]⟩
abbrev S4950000x2 : Shape := ⟨2, ![4950000, 2]⟩

class Facts : Prop where
  bcast_S_S4950000 : S_.BroadcastsInDim S4950000 (![] : Fin 0 → Fin S4950000.rank)
  slices_S2x4950000_S1x4950000_0_0 : S2x4950000.Slices ![0, 0] S1x4950000
  shapeCasts_S1x4950000_S4950000 : S1x4950000.ShapeCasts S4950000
  slices_S2x4950000_S1x4950000_1_0 : S2x4950000.Slices ![1, 0] S1x4950000
  bcast_S_S50000 : S_.BroadcastsInDim S50000 (![] : Fin 0 → Fin S50000.rank)
  slices_S4950000x4_S4950000x1_0_0 : S4950000x4.Slices ![0, 0] S4950000x1
  shapeCasts_S4950000x1_S4950000 : S4950000x1.ShapeCasts S4950000
  slices_S500x2_S500x1_0_0 : S500x2.Slices ![0, 0] S500x1
  shapeCasts_S500x1_S500 : S500x1.ShapeCasts S500
  slices_S500x2_S500x1_0_1 : S500x2.Slices ![0, 1] S500x1
  bcast_S_S500 : S_.BroadcastsInDim S500 (![] : Fin 0 → Fin S500.rank)
  bcast_S500_S500x1_0 : S500.BroadcastsInDim S500x1 (![0] : Fin 1 → Fin S500x1.rank)
  concatenates_S500x1_S500x1_S500x1_S500x3_d1 : Shape.Concatenates [S500x1, S500x1, S500x1] S500x3 1
  bcast_S3_S500x3_1 : S3.BroadcastsInDim S500x3 (![1] : Fin 1 → Fin S500x3.rank)
  reducesTo_S500x3_S500_d1 : S500x3.ReducesTo [1] S500
  h_S_ : 0 < S_.numel
  bcast_S_S500x1 : S_.BroadcastsInDim S500x1 (![] : Fin 0 → Fin S500x1.rank)
  bcast_S500x1_S500x3_0_1 : S500x1.BroadcastsInDim S500x3 (![0, 1] : Fin 2 → Fin S500x3.rank)
  slices_S500x3_S500x1_0_1 : S500x3.Slices ![0, 1] S500x1
  slices_S500x3_S500x1_0_2 : S500x3.Slices ![0, 2] S500x1
  slices_S500x3_S500x1_0_0 : S500x3.Slices ![0, 0] S500x1
  bcast_S500x3_S500x1x3_0_2 : S500x3.BroadcastsInDim S500x1x3 (![0, 2] : Fin 2 → Fin S500x1x3.rank)
  concatenates_S500x1x3_S500x1x3_S500x1x3_S500x3x3_d1 : Shape.Concatenates [S500x1x3, S500x1x3, S500x1x3] S500x3x3 1
  transposes_S500x3x3_S500x3x3_0_2_1 : S500x3x3.Transposes [0, 2, 1] S500x3x3
  bcast_S50000x3_S50000x3x1_0_1 : S50000x3.BroadcastsInDim S50000x3x1 (![0, 1] : Fin 2 → Fin S50000x3x1.rank)
  bcast_S50000_S50000x1_0 : S50000.BroadcastsInDim S50000x1 (![0] : Fin 1 → Fin S50000x1.rank)
  slices_S50000x3x3_S50000x3x2_0_0_0 : S50000x3x3.Slices ![0, 0, 0] S50000x3x2
  bcast_S50000x3x1_S50000x3x2_0_1_2 : S50000x3x1.BroadcastsInDim S50000x3x2 (![0, 1, 2] : Fin 3 → Fin S50000x3x2.rank)
  reducesTo_S50000x3x2_S50000x2_d1 : S50000x3x2.ReducesTo [1] S50000x2
  bcast_S4950000_S4950000x1_0 : S4950000.BroadcastsInDim S4950000x1 (![0] : Fin 1 → Fin S4950000x1.rank)
  bcast_S_S500x2 : S_.BroadcastsInDim S500x2 (![] : Fin 0 → Fin S500x2.rank)
  bcast_S_S50000x3 : S_.BroadcastsInDim S50000x3 (![] : Fin 0 → Fin S50000x3.rank)
  reducesTo_S4950000x2_S_d0_1 : S4950000x2.ReducesTo [0, 1] S_
  gather_S500x3x3_S50000x1_S50000x3x3_12_0_n_n_0_1_133_wf : GatherDims.WF S500x3x3 S50000x1 S50000x3x3 [1, 2] [0] [] [0] [] 1 ![1, 3, 3]
  gather_S50000x2_S4950000x1_S4950000x2_1_0_n_n_0_1_12_wf : GatherDims.WF S50000x2 S4950000x1 S4950000x2 [1] [0] [] [0] [] 1 ![1, 2]

variable [Facts]

def gather_S500x3x3_S50000x1_S50000x3x3_12_0_n_n_0_1_133 : GatherDims S500x3x3 S50000x1 S50000x3x3 where
  offsetDims := [1, 2]
  collapsedSliceDims := [0]
  operandBatchingDims := []
  startIndicesBatchingDims := []
  startIndexMap := [0]
  indexVectorDim := 1
  sliceSizes := ![1, 3, 3]
  wf := gather_S500x3x3_S50000x1_S50000x3x3_12_0_n_n_0_1_133_wf
def gather_S50000x2_S4950000x1_S4950000x2_1_0_n_n_0_1_12 : GatherDims S50000x2 S4950000x1 S4950000x2 where
  offsetDims := [1]
  collapsedSliceDims := [0]
  operandBatchingDims := []
  startIndicesBatchingDims := []
  startIndexMap := [0]
  indexVectorDim := 1
  sliceSizes := ![1, 2]
  wf := gather_S50000x2_S4950000x1_S4950000x2_1_0_n_n_0_1_12_wf

noncomputable abbrev lit0 : Fin 3 → BitVec 32 := fun
  | 0 => 0x00000000#32 | 1 => 0x3F800000#32 | 2 => 0x00000000#32
  | _ => 0#32

def fn_where {F : FTy → Type} [FloatOps F] (arg0 : IVec S4950000 1) (arg1 : IVec S4950000 32) (arg2 : IVec S4950000 32) : IVec S4950000 32 :=
  let v0 : IVec S4950000 32 := select arg0 arg1 arg2
  v0

def fn_norm {F : FTy → Type} [FloatOps F] (arg0 : FVec F S500x3 .f32) : FVec F S500x1 .f32 :=
  let v0 : FVec F S500x3 .f32 := mulf arg0 arg0
  let cst : FVec F S_ .f32 := constant S_ .f32 0x00000000#32
  let v1 : FVec F S500 .f32 := (fun x v => Host.reduceAdd x v reducesTo_S500x3_S500_d1 h_S_) v0 cst
  let v2 : FVec F S500x1 .f32 := broadcastInDim S500x1 ![0] bcast_S500_S500x1_0 v1
  let v3 : FVec F S500x1 .f32 := Host.sqrt v2
  v3

def fn_part8 {F : FTy → Type} [FloatOps F] (main_arg0 : FVec F S500x2 .f32) (main_arg1 : FVec F S50000x3 .f32) (main_arg2 : IVec S500 32) (main_arg5 : IVec S50000 32) (main_v14 : IVec S4950000 1) (main_v22 : IVec S4950000 1) (main_v25 : IVec S50000 32) (main_v27 : FVec F S4950000 .f32) (main_v154 : FVec F S50000x2 .f32) (main_v163 : FVec F S4950000x2 .f32) (main_v171 : IVec S4950000x1 32) : IVec S500x2 1 × IVec S50000x3 1 × IVec S500 1 × IVec S4950000 1 × IVec S4950000 1 × IVec S4950000 1 × IVec S50000 1 × IVec S_ 1 :=
  let main_v172 : FVec F S4950000x2 .f32 := (fun x i => Host.gather gather_S50000x2_S4950000x1_S4950000x2_1_0_n_n_0_1_12 x i) main_v154 main_v171
  let main_v173 : IVec S4950000x2 1 := cmpf .une main_v163 main_v172
  let main_v174 : FVec F S500x2 .f32 := Host.absf main_arg0
  let main_cst_18 : FVec F S_ .f32 := constant S_ .f32 0x7F800000#32
  let main_v175 : FVec F S500x2 .f32 := broadcastInDim S500x2 ![] bcast_S_S500x2 main_cst_18
  let main_v176 : IVec S500x2 1 := cmpf .olt main_v174 main_v175
  let main_v177 : FVec F S50000x3 .f32 := Host.absf main_arg1
  let main_cst_19 : FVec F S_ .f32 := constant S_ .f32 0x7F800000#32
  let main_v178 : FVec F S50000x3 .f32 := broadcastInDim S50000x3 ![] bcast_S_S50000x3 main_cst_19
  let main_v179 : IVec S50000x3 1 := cmpf .olt main_v177 main_v178
  let main_c_20 : IVec S_ 32 := constantI S_ 32 100#32
  let main_v180 : IVec S500 32 := broadcastInDim S500 ![] bcast_S_S500 main_c_20
  let main_v181 : IVec S500 1 := cmpi .eq main_arg2 main_v180
  let main_cst_21 : FVec F S_ .f32 := constant S_ .f32 0x00000000#32
  let main_v182 : FVec F S4950000 .f32 := broadcastInDim S4950000 ![] bcast_S_S4950000 main_cst_21
  let main_v183 : IVec S4950000 1 := cmpf .ogt main_v27 main_v182
  let main_cst_22 : FVec F S_ .f32 := constant S_ .f32 0x7F800000#32
  let main_v184 : FVec F S4950000 .f32 := broadcastInDim S4950000 ![] bcast_S_S4950000 main_cst_22
  let main_v185 : IVec S4950000 1 := cmpf .olt main_v27 main_v184
  let main_v186 : IVec S4950000 1 := andi main_v183 main_v185
  let main_v187 : IVec S50000 1 := cmpi .eq main_arg5 main_v25
  let main_c_23 : IVec S_ 1 := constantI S_ 1 0#1
  let main_v188 : IVec S_ 1 := (fun x v => Host.reduce IntOp.ori x v reducesTo_S4950000x2_S_d0_1 h_S_) main_v173 main_c_23
  (main_v176, main_v179, main_v181, main_v14, main_v22, main_v186, main_v187, main_v188)

def fn_part7 {F : FTy → Type} [FloatOps F] (main_arg0 : FVec F S500x2 .f32) (main_arg1 : FVec F S50000x3 .f32) (main_arg2 : IVec S500 32) (main_arg3 : IVec S2x4950000 32) (main_arg5 : IVec S50000 32) (main_v14 : IVec S4950000 1) (main_v22 : IVec S4950000 1) (main_v25 : IVec S50000 32) (main_v27 : FVec F S4950000 .f32) (main_v151 : FVec F S50000x3x2 .f32) (main_v152 : FVec F S50000x3x2 .f32) : IVec S500x2 1 × IVec S50000x3 1 × IVec S500 1 × IVec S4950000 1 × IVec S4950000 1 × IVec S4950000 1 × IVec S50000 1 × IVec S_ 1 :=
  let main_v153 : FVec F S50000x3x2 .f32 := mulf main_v152 main_v151
  let main_cst_13 : FVec F S_ .f32 := constant S_ .f32 0x00000000#32
  let main_v154 : FVec F S50000x2 .f32 := (fun x v => Host.reduceAdd x v reducesTo_S50000x3x2_S50000x2_d1 h_S_) main_v153 main_cst_13
  let main_v155 : IVec S1x4950000 32 := (extractStridedSlice S1x4950000 ![0, 0] · slices_S2x4950000_S1x4950000_0_0) main_arg3
  let main_v156 : IVec S4950000 32 := shapeCast S4950000 main_v155 shapeCasts_S1x4950000_S4950000
  let main_c_14 : IVec S_ 32 := constantI S_ 32 0#32
  let main_v157 : IVec S4950000 32 := broadcastInDim S4950000 ![] bcast_S_S4950000 main_c_14
  let main_v158 : IVec S4950000 1 := cmpi .slt main_v156 main_v157
  let main_c_15 : IVec S_ 32 := constantI S_ 32 50000#32
  let main_v159 : IVec S4950000 32 := broadcastInDim S4950000 ![] bcast_S_S4950000 main_c_15
  let main_v160 : IVec S4950000 32 := addi main_v156 main_v159
  let main_v161 : IVec S4950000 32 := select main_v158 main_v160 main_v156
  let main_v162 : IVec S4950000x1 32 := broadcastInDim S4950000x1 ![0] bcast_S4950000_S4950000x1_0 main_v161
  let main_v163 : FVec F S4950000x2 .f32 := (fun x i => Host.gather gather_S50000x2_S4950000x1_S4950000x2_1_0_n_n_0_1_12 x i) main_v154 main_v162
  let main_v164 : IVec S1x4950000 32 := (extractStridedSlice S1x4950000 ![1, 0] · slices_S2x4950000_S1x4950000_1_0) main_arg3
  let main_v165 : IVec S4950000 32 := shapeCast S4950000 main_v164 shapeCasts_S1x4950000_S4950000
  let main_c_16 : IVec S_ 32 := constantI S_ 32 0#32
  let main_v166 : IVec S4950000 32 := broadcastInDim S4950000 ![] bcast_S_S4950000 main_c_16
  let main_v167 : IVec S4950000 1 := cmpi .slt main_v165 main_v166
  let main_c_17 : IVec S_ 32 := constantI S_ 32 50000#32
  let main_v168 : IVec S4950000 32 := broadcastInDim S4950000 ![] bcast_S_S4950000 main_c_17
  let main_v169 : IVec S4950000 32 := addi main_v165 main_v168
  let main_v170 : IVec S4950000 32 := select main_v167 main_v169 main_v165
  let main_v171 : IVec S4950000x1 32 := broadcastInDim S4950000x1 ![0] bcast_S4950000_S4950000x1_0 main_v170
  fn_part8 (F := F) main_arg0 main_arg1 main_arg2 main_arg5 main_v14 main_v22 main_v25 main_v27 main_v154 main_v163 main_v171

def fn_part6 {F : FTy → Type} [FloatOps F] (main_arg0 : FVec F S500x2 .f32) (main_arg1 : FVec F S50000x3 .f32) (main_arg2 : IVec S500 32) (main_arg3 : IVec S2x4950000 32) (main_arg5 : IVec S50000 32) (main_v14 : IVec S4950000 1) (main_v22 : IVec S4950000 1) (main_v25 : IVec S50000 32) (main_v27 : FVec F S4950000 .f32) (main_v53 : FVec F S500x3 .f32) (main_v95 : FVec F S500x3 .f32) (main_v129 : FVec F S500x1 .f32) (main_v130 : FVec F S500x1 .f32) (main_v131 : FVec F S500x1 .f32) : IVec S500x2 1 × IVec S50000x3 1 × IVec S500 1 × IVec S4950000 1 × IVec S4950000 1 × IVec S4950000 1 × IVec S50000 1 × IVec S_ 1 :=
  let main_v132 : FVec F S500x3 .f32 := concatenate S500x3 1 [⟨S500x1, main_v129⟩, ⟨S500x1, main_v130⟩, ⟨S500x1, main_v131⟩] concatenates_S500x1_S500x1_S500x1_S500x3_d1
  let main_v133 : FVec F S500x1 .f32 := fn_norm (F := F) main_v132
  let main_cst_10 : FVec F S_ .f32 := constant S_ .f32 0x3727C5AC#32
  let main_v134 : FVec F S500x1 .f32 := broadcastInDim S500x1 ![] bcast_S_S500x1 main_cst_10
  let main_v135 : FVec F S500x1 .f32 := maximumf main_v133 main_v134
  let main_v136 : FVec F S500x3 .f32 := broadcastInDim S500x3 ![0, 1] bcast_S500x1_S500x3_0_1 main_v135
  let main_v137 : FVec F S500x3 .f32 := Host.divf main_v132 main_v136
  let main_v138 : FVec F S500x1x3 .f32 := broadcastInDim S500x1x3 ![0, 2] bcast_S500x3_S500x1x3_0_2 main_v95
  let main_v139 : FVec F S500x1x3 .f32 := broadcastInDim S500x1x3 ![0, 2] bcast_S500x3_S500x1x3_0_2 main_v137
  let main_v140 : FVec F S500x1x3 .f32 := broadcastInDim S500x1x3 ![0, 2] bcast_S500x3_S500x1x3_0_2 main_v53
  let main_v141 : FVec F S500x3x3 .f32 := concatenate S500x3x3 1 [⟨S500x1x3, main_v138⟩, ⟨S500x1x3, main_v139⟩, ⟨S500x1x3, main_v140⟩] concatenates_S500x1x3_S500x1x3_S500x1x3_S500x3x3_d1
  let main_v142 : FVec F S500x3x3 .f32 := (transpose S500x3x3 [0, 2, 1] · transposes_S500x3x3_S500x3x3_0_2_1) main_v141
  let main_v143 : FVec F S50000x3x1 .f32 := broadcastInDim S50000x3x1 ![0, 1] bcast_S50000x3_S50000x3x1_0_1 main_arg1
  let main_c_11 : IVec S_ 32 := constantI S_ 32 0#32
  let main_v144 : IVec S50000 32 := broadcastInDim S50000 ![] bcast_S_S50000 main_c_11
  let main_v145 : IVec S50000 1 := cmpi .slt main_arg5 main_v144
  let main_c_12 : IVec S_ 32 := constantI S_ 32 500#32
  let main_v146 : IVec S50000 32 := broadcastInDim S50000 ![] bcast_S_S50000 main_c_12
  let main_v147 : IVec S50000 32 := addi main_arg5 main_v146
  let main_v148 : IVec S50000 32 := select main_v145 main_v147 main_arg5
  let main_v149 : IVec S50000x1 32 := broadcastInDim S50000x1 ![0] bcast_S50000_S50000x1_0 main_v148
  let main_v150 : FVec F S50000x3x3 .f32 := (fun x i => Host.gather gather_S500x3x3_S50000x1_S50000x3x3_12_0_n_n_0_1_133 x i) main_v142 main_v149
  let main_v151 : FVec F S50000x3x2 .f32 := (extractStridedSlice S50000x3x2 ![0, 0, 0] · slices_S50000x3x3_S50000x3x2_0_0_0) main_v150
  let main_v152 : FVec F S50000x3x2 .f32 := broadcastInDim S50000x3x2 ![0, 1, 2] bcast_S50000x3x1_S50000x3x2_0_1_2 main_v143
  fn_part7 (F := F) main_arg0 main_arg1 main_arg2 main_arg3 main_arg5 main_v14 main_v22 main_v25 main_v27 main_v151 main_v152

def fn_part5 {F : FTy → Type} [FloatOps F] (main_arg0 : FVec F S500x2 .f32) (main_arg1 : FVec F S50000x3 .f32) (main_arg2 : IVec S500 32) (main_arg3 : IVec S2x4950000 32) (main_arg5 : IVec S50000 32) (main_v14 : IVec S4950000 1) (main_v22 : IVec S4950000 1) (main_v25 : IVec S50000 32) (main_v27 : FVec F S4950000 .f32) (main_v53 : FVec F S500x3 .f32) (main_v95 : FVec F S500x3 .f32) (main_v106 : FVec F S500 .f32) (main_v107 : FVec F S500x1 .f32) : IVec S500x2 1 × IVec S50000x3 1 × IVec S500 1 × IVec S4950000 1 × IVec S4950000 1 × IVec S4950000 1 × IVec S50000 1 × IVec S_ 1 :=
  let main_v108 : FVec F S500 .f32 := shapeCast S500 main_v107 shapeCasts_S500x1_S500
  let main_v109 : FVec F S500x1 .f32 := (extractStridedSlice S500x1 ![0, 0] · slices_S500x3_S500x1_0_0) main_v95
  let main_v110 : FVec F S500 .f32 := shapeCast S500 main_v109 shapeCasts_S500x1_S500
  let main_v111 : FVec F S500 .f32 := mulf main_v108 main_v110
  let main_v112 : FVec F S500x1 .f32 := (extractStridedSlice S500x1 ![0, 0] · slices_S500x3_S500x1_0_0) main_v53
  let main_v113 : FVec F S500 .f32 := shapeCast S500 main_v112 shapeCasts_S500x1_S500
  let main_v114 : FVec F S500x1 .f32 := (extractStridedSlice S500x1 ![0, 2] · slices_S500x3_S500x1_0_2) main_v95
  let main_v115 : FVec F S500 .f32 := shapeCast S500 main_v114 shapeCasts_S500x1_S500
  let main_v116 : FVec F S500 .f32 := mulf main_v113 main_v115
  let main_v117 : FVec F S500 .f32 := subf main_v111 main_v116
  let main_v118 : FVec F S500x1 .f32 := (extractStridedSlice S500x1 ![0, 0] · slices_S500x3_S500x1_0_0) main_v53
  let main_v119 : FVec F S500 .f32 := shapeCast S500 main_v118 shapeCasts_S500x1_S500
  let main_v120 : FVec F S500x1 .f32 := (extractStridedSlice S500x1 ![0, 1] · slices_S500x3_S500x1_0_1) main_v95
  let main_v121 : FVec F S500 .f32 := shapeCast S500 main_v120 shapeCasts_S500x1_S500
  let main_v122 : FVec F S500 .f32 := mulf main_v119 main_v121
  let main_v123 : FVec F S500x1 .f32 := (extractStridedSlice S500x1 ![0, 1] · slices_S500x3_S500x1_0_1) main_v53
  let main_v124 : FVec F S500 .f32 := shapeCast S500 main_v123 shapeCasts_S500x1_S500
  let main_v125 : FVec F S500x1 .f32 := (extractStridedSlice S500x1 ![0, 0] · slices_S500x3_S500x1_0_0) main_v95
  let main_v126 : FVec F S500 .f32 := shapeCast S500 main_v125 shapeCasts_S500x1_S500
  let main_v127 : FVec F S500 .f32 := mulf main_v124 main_v126
  let main_v128 : FVec F S500 .f32 := subf main_v122 main_v127
  let main_v129 : FVec F S500x1 .f32 := broadcastInDim S500x1 ![0] bcast_S500_S500x1_0 main_v106
  let main_v130 : FVec F S500x1 .f32 := broadcastInDim S500x1 ![0] bcast_S500_S500x1_0 main_v117
  let main_v131 : FVec F S500x1 .f32 := broadcastInDim S500x1 ![0] bcast_S500_S500x1_0 main_v128
  fn_part6 (F := F) main_arg0 main_arg1 main_arg2 main_arg3 main_arg5 main_v14 main_v22 main_v25 main_v27 main_v53 main_v95 main_v129 main_v130 main_v131

def fn_part4 {F : FTy → Type} [FloatOps F] (main_arg0 : FVec F S500x2 .f32) (main_arg1 : FVec F S50000x3 .f32) (main_arg2 : IVec S500 32) (main_arg3 : IVec S2x4950000 32) (main_arg5 : IVec S50000 32) (main_v14 : IVec S4950000 1) (main_v22 : IVec S4950000 1) (main_v25 : IVec S50000 32) (main_v27 : FVec F S4950000 .f32) (main_v53 : FVec F S500x3 .f32) (main_v64 : FVec F S500 .f32) (main_v75 : FVec F S500 .f32) (main_v80 : FVec F S500 .f32) (main_v82 : FVec F S500 .f32) (main_v84 : FVec F S500 .f32) : IVec S500x2 1 × IVec S50000x3 1 × IVec S500 1 × IVec S4950000 1 × IVec S4950000 1 × IVec S4950000 1 × IVec S50000 1 × IVec S_ 1 :=
  let main_v85 : FVec F S500 .f32 := mulf main_v82 main_v84
  let main_v86 : FVec F S500 .f32 := subf main_v80 main_v85
  let main_v87 : FVec F S500x1 .f32 := broadcastInDim S500x1 ![0] bcast_S500_S500x1_0 main_v64
  let main_v88 : FVec F S500x1 .f32 := broadcastInDim S500x1 ![0] bcast_S500_S500x1_0 main_v75
  let main_v89 : FVec F S500x1 .f32 := broadcastInDim S500x1 ![0] bcast_S500_S500x1_0 main_v86
  let main_v90 : FVec F S500x3 .f32 := concatenate S500x3 1 [⟨S500x1, main_v87⟩, ⟨S500x1, main_v88⟩, ⟨S500x1, main_v89⟩] concatenates_S500x1_S500x1_S500x1_S500x3_d1
  let main_v91 : FVec F S500x1 .f32 := fn_norm (F := F) main_v90
  let main_cst_9 : FVec F S_ .f32 := constant S_ .f32 0x3727C5AC#32
  let main_v92 : FVec F S500x1 .f32 := broadcastInDim S500x1 ![] bcast_S_S500x1 main_cst_9
  let main_v93 : FVec F S500x1 .f32 := maximumf main_v91 main_v92
  let main_v94 : FVec F S500x3 .f32 := broadcastInDim S500x3 ![0, 1] bcast_S500x1_S500x3_0_1 main_v93
  let main_v95 : FVec F S500x3 .f32 := Host.divf main_v90 main_v94
  let main_v96 : FVec F S500x1 .f32 := (extractStridedSlice S500x1 ![0, 1] · slices_S500x3_S500x1_0_1) main_v53
  let main_v97 : FVec F S500 .f32 := shapeCast S500 main_v96 shapeCasts_S500x1_S500
  let main_v98 : FVec F S500x1 .f32 := (extractStridedSlice S500x1 ![0, 2] · slices_S500x3_S500x1_0_2) main_v95
  let main_v99 : FVec F S500 .f32 := shapeCast S500 main_v98 shapeCasts_S500x1_S500
  let main_v100 : FVec F S500 .f32 := mulf main_v97 main_v99
  let main_v101 : FVec F S500x1 .f32 := (extractStridedSlice S500x1 ![0, 2] · slices_S500x3_S500x1_0_2) main_v53
  let main_v102 : FVec F S500 .f32 := shapeCast S500 main_v101 shapeCasts_S500x1_S500
  let main_v103 : FVec F S500x1 .f32 := (extractStridedSlice S500x1 ![0, 1] · slices_S500x3_S500x1_0_1) main_v95
  let main_v104 : FVec F S500 .f32 := shapeCast S500 main_v103 shapeCasts_S500x1_S500
  let main_v105 : FVec F S500 .f32 := mulf main_v102 main_v104
  let main_v106 : FVec F S500 .f32 := subf main_v100 main_v105
  let main_v107 : FVec F S500x1 .f32 := (extractStridedSlice S500x1 ![0, 2] · slices_S500x3_S500x1_0_2) main_v53
  fn_part5 (F := F) main_arg0 main_arg1 main_arg2 main_arg3 main_arg5 main_v14 main_v22 main_v25 main_v27 main_v53 main_v95 main_v106 main_v107

def fn_part3 {F : FTy → Type} [FloatOps F] (main_arg0 : FVec F S500x2 .f32) (main_arg1 : FVec F S50000x3 .f32) (main_arg2 : IVec S500 32) (main_arg3 : IVec S2x4950000 32) (main_arg5 : IVec S50000 32) (main_v14 : IVec S4950000 1) (main_v22 : IVec S4950000 1) (main_v25 : IVec S50000 32) (main_v27 : FVec F S4950000 .f32) (main_v47 : FVec F S500x3 .f32) (main_v53 : FVec F S500x3 .f32) (main_v58 : FVec F S500 .f32) (main_v60 : FVec F S500 .f32) : IVec S500x2 1 × IVec S50000x3 1 × IVec S500 1 × IVec S4950000 1 × IVec S4950000 1 × IVec S4950000 1 × IVec S50000 1 × IVec S_ 1 :=
  let main_v61 : FVec F S500x1 .f32 := (extractStridedSlice S500x1 ![0, 1] · slices_S500x3_S500x1_0_1) main_v53
  let main_v62 : FVec F S500 .f32 := shapeCast S500 main_v61 shapeCasts_S500x1_S500
  let main_v63 : FVec F S500 .f32 := mulf main_v60 main_v62
  let main_v64 : FVec F S500 .f32 := subf main_v58 main_v63
  let main_v65 : FVec F S500x1 .f32 := (extractStridedSlice S500x1 ![0, 2] · slices_S500x3_S500x1_0_2) main_v47
  let main_v66 : FVec F S500 .f32 := shapeCast S500 main_v65 shapeCasts_S500x1_S500
  let main_v67 : FVec F S500x1 .f32 := (extractStridedSlice S500x1 ![0, 0] · slices_S500x3_S500x1_0_0) main_v53
  let main_v68 : FVec F S500 .f32 := shapeCast S500 main_v67 shapeCasts_S500x1_S500
  let main_v69 : FVec F S500 .f32 := mulf main_v66 main_v68
  let main_v70 : FVec F S500x1 .f32 := (extractStridedSlice S500x1 ![0, 0] · slices_S500x3_S500x1_0_0) main_v47
  let main_v71 : FVec F S500 .f32 := shapeCast S500 main_v70 shapeCasts_S500x1_S500
  let main_v72 : FVec F S500x1 .f32 := (extractStridedSlice S500x1 ![0, 2] · slices_S500x3_S500x1_0_2) main_v53
  let main_v73 : FVec F S500 .f32 := shapeCast S500 main_v72 shapeCasts_S500x1_S500
  let main_v74 : FVec F S500 .f32 := mulf main_v71 main_v73
  let main_v75 : FVec F S500 .f32 := subf main_v69 main_v74
  let main_v76 : FVec F S500x1 .f32 := (extractStridedSlice S500x1 ![0, 0] · slices_S500x3_S500x1_0_0) main_v47
  let main_v77 : FVec F S500 .f32 := shapeCast S500 main_v76 shapeCasts_S500x1_S500
  let main_v78 : FVec F S500x1 .f32 := (extractStridedSlice S500x1 ![0, 1] · slices_S500x3_S500x1_0_1) main_v53
  let main_v79 : FVec F S500 .f32 := shapeCast S500 main_v78 shapeCasts_S500x1_S500
  let main_v80 : FVec F S500 .f32 := mulf main_v77 main_v79
  let main_v81 : FVec F S500x1 .f32 := (extractStridedSlice S500x1 ![0, 1] · slices_S500x3_S500x1_0_1) main_v47
  let main_v82 : FVec F S500 .f32 := shapeCast S500 main_v81 shapeCasts_S500x1_S500
  let main_v83 : FVec F S500x1 .f32 := (extractStridedSlice S500x1 ![0, 0] · slices_S500x3_S500x1_0_0) main_v53
  let main_v84 : FVec F S500 .f32 := shapeCast S500 main_v83 shapeCasts_S500x1_S500
  fn_part4 (F := F) main_arg0 main_arg1 main_arg2 main_arg3 main_arg5 main_v14 main_v22 main_v25 main_v27 main_v53 main_v64 main_v75 main_v80 main_v82 main_v84

def fn_part2 {F : FTy → Type} [FloatOps F] (main_arg0 : FVec F S500x2 .f32) (main_arg1 : FVec F S50000x3 .f32) (main_arg2 : IVec S500 32) (main_arg3 : IVec S2x4950000 32) (main_arg5 : IVec S50000 32) (main_cst : FVec F S3 .f32) (main_v14 : IVec S4950000 1) (main_v22 : IVec S4950000 1) (main_v25 : IVec S50000 32) (main_v27 : FVec F S4950000 .f32) (main_v33 : FVec F S500 .f32) (main_v35 : FVec F S500 .f32) (main_v36 : FVec F S500 .f32) (main_v37 : FVec F S500 .f32) : IVec S500x2 1 × IVec S50000x3 1 × IVec S500 1 × IVec S4950000 1 × IVec S4950000 1 × IVec S4950000 1 × IVec S50000 1 × IVec S_ 1 :=
  let main_v38 : FVec F S500 .f32 := mulf main_v36 main_v37
  let main_v39 : FVec F S500 .f32 := Host.sin main_v33
  let main_v40 : FVec F S500 .f32 := Host.cos main_v33
  let main_v41 : FVec F S500 .f32 := Host.cos main_v35
  let main_v42 : FVec F S500 .f32 := mulf main_v40 main_v41
  let main_v43 : FVec F S500x1 .f32 := broadcastInDim S500x1 ![0] bcast_S500_S500x1_0 main_v38
  let main_v44 : FVec F S500x1 .f32 := broadcastInDim S500x1 ![0] bcast_S500_S500x1_0 main_v39
  let main_v45 : FVec F S500x1 .f32 := broadcastInDim S500x1 ![0] bcast_S500_S500x1_0 main_v42
  let main_v46 : FVec F S500x3 .f32 := concatenate S500x3 1 [⟨S500x1, main_v43⟩, ⟨S500x1, main_v44⟩, ⟨S500x1, main_v45⟩] concatenates_S500x1_S500x1_S500x1_S500x3_d1
  let main_v47 : FVec F S500x3 .f32 := broadcastInDim S500x3 ![1] bcast_S3_S500x3_1 main_cst
  let main_v48 : FVec F S500x3 .f32 := Host.negf main_v46
  let main_v49 : FVec F S500x1 .f32 := fn_norm (F := F) main_v48
  let main_cst_8 : FVec F S_ .f32 := constant S_ .f32 0x3727C5AC#32
  let main_v50 : FVec F S500x1 .f32 := broadcastInDim S500x1 ![] bcast_S_S500x1 main_cst_8
  let main_v51 : FVec F S500x1 .f32 := maximumf main_v49 main_v50
  let main_v52 : FVec F S500x3 .f32 := broadcastInDim S500x3 ![0, 1] bcast_S500x1_S500x3_0_1 main_v51
  let main_v53 : FVec F S500x3 .f32 := Host.divf main_v48 main_v52
  let main_v54 : FVec F S500x1 .f32 := (extractStridedSlice S500x1 ![0, 1] · slices_S500x3_S500x1_0_1) main_v47
  let main_v55 : FVec F S500 .f32 := shapeCast S500 main_v54 shapeCasts_S500x1_S500
  let main_v56 : FVec F S500x1 .f32 := (extractStridedSlice S500x1 ![0, 2] · slices_S500x3_S500x1_0_2) main_v53
  let main_v57 : FVec F S500 .f32 := shapeCast S500 main_v56 shapeCasts_S500x1_S500
  let main_v58 : FVec F S500 .f32 := mulf main_v55 main_v57
  let main_v59 : FVec F S500x1 .f32 := (extractStridedSlice S500x1 ![0, 2] · slices_S500x3_S500x1_0_2) main_v47
  let main_v60 : FVec F S500 .f32 := shapeCast S500 main_v59 shapeCasts_S500x1_S500
  fn_part3 (F := F) main_arg0 main_arg1 main_arg2 main_arg3 main_arg5 main_v14 main_v22 main_v25 main_v27 main_v47 main_v53 main_v58 main_v60

def fn_part1 {F : FTy → Type} [FloatOps F] (main_arg0 : FVec F S500x2 .f32) (main_arg1 : FVec F S50000x3 .f32) (main_arg2 : IVec S500 32) (main_arg3 : IVec S2x4950000 32) (main_arg4 : FVec F S4950000x4 .f32) (main_arg5 : IVec S50000 32) (main_cst : FVec F S3 .f32) (main_v6 : IVec S4950000 32) (main_v10 : IVec S4950000 32) (main_v14 : IVec S4950000 1) (main_v16 : IVec S4950000 32) (main_v17 : IVec S4950000 1) : IVec S500x2 1 × IVec S50000x3 1 × IVec S500 1 × IVec S4950000 1 × IVec S4950000 1 × IVec S4950000 1 × IVec S50000 1 × IVec S_ 1 :=
  let main_c_4 : IVec S_ 32 := constantI S_ 32 1#32
  let main_v18 : IVec S4950000 32 := broadcastInDim S4950000 ![] bcast_S_S4950000 main_c_4
  let main_v19 : IVec S4950000 32 := addi main_v6 main_v18
  let main_v20 : IVec S4950000 32 := fn_where (F := F) main_v17 main_v6 main_v19
  let main_v21 : IVec S4950000 32 := addi main_v10 main_v20
  let main_v22 : IVec S4950000 1 := cmpi .eq main_v16 main_v21
  let main_v23 : IVec S50000 32 := iotaInDim S50000 32 0
  let main_c_5 : IVec S_ 32 := constantI S_ 32 100#32
  let main_v24 : IVec S50000 32 := broadcastInDim S50000 ![] bcast_S_S50000 main_c_5
  let main_v25 : IVec S50000 32 := Host.divsi main_v23 main_v24
  let main_v26 : FVec F S4950000x1 .f32 := (extractStridedSlice S4950000x1 ![0, 0] · slices_S4950000x4_S4950000x1_0_0) main_arg4
  let main_v27 : FVec F S4950000 .f32 := shapeCast S4950000 main_v26 shapeCasts_S4950000x1_S4950000
  let main_v28 : FVec F S500x1 .f32 := (extractStridedSlice S500x1 ![0, 0] · slices_S500x2_S500x1_0_0) main_arg0
  let main_v29 : FVec F S500 .f32 := shapeCast S500 main_v28 shapeCasts_S500x1_S500
  let main_v30 : FVec F S500x1 .f32 := (extractStridedSlice S500x1 ![0, 1] · slices_S500x2_S500x1_0_1) main_arg0
  let main_v31 : FVec F S500 .f32 := shapeCast S500 main_v30 shapeCasts_S500x1_S500
  let main_cst_6 : FVec F S_ .f32 := constant S_ .f32 0x3C8EFA35#32
  let main_v32 : FVec F S500 .f32 := broadcastInDim S500 ![] bcast_S_S500 main_cst_6
  let main_v33 : FVec F S500 .f32 := mulf main_v29 main_v32
  let main_cst_7 : FVec F S_ .f32 := constant S_ .f32 0x3C8EFA35#32
  let main_v34 : FVec F S500 .f32 := broadcastInDim S500 ![] bcast_S_S500 main_cst_7
  let main_v35 : FVec F S500 .f32 := mulf main_v31 main_v34
  let main_v36 : FVec F S500 .f32 := Host.cos main_v33
  let main_v37 : FVec F S500 .f32 := Host.sin main_v35
  fn_part2 (F := F) main_arg0 main_arg1 main_arg2 main_arg3 main_arg5 main_cst main_v14 main_v22 main_v25 main_v27 main_v33 main_v35 main_v36 main_v37

def fn {F : FTy → Type} [FloatOps F] (main_arg0 : FVec F S500x2 .f32) (main_arg1 : FVec F S50000x3 .f32) (main_arg2 : IVec S500 32) (main_arg3 : IVec S2x4950000 32) (main_arg4 : FVec F S4950000x4 .f32) (main_arg5 : IVec S50000 32) : IVec S500x2 1 × IVec S50000x3 1 × IVec S500 1 × IVec S4950000 1 × IVec S4950000 1 × IVec S4950000 1 × IVec S50000 1 × IVec S_ 1 :=
  let main_cst : FVec F S3 .f32 := fun i => FloatOps.ofBits .f32 (lit0 (S3.rowMajor i))
  let main_v0 : IVec S4950000 32 := iotaInDim S4950000 32 0
  let main_c : IVec S_ 32 := constantI S_ 32 9900#32
  let main_v1 : IVec S4950000 32 := broadcastInDim S4950000 ![] bcast_S_S4950000 main_c
  let main_v2 : IVec S4950000 32 := Host.remsi main_v0 main_v1
  let main_c_0 : IVec S_ 32 := constantI S_ 32 99#32
  let main_v3 : IVec S4950000 32 := broadcastInDim S4950000 ![] bcast_S_S4950000 main_c_0
  let main_v4 : IVec S4950000 32 := Host.divsi main_v2 main_v3
  let main_c_1 : IVec S_ 32 := constantI S_ 32 99#32
  let main_v5 : IVec S4950000 32 := broadcastInDim S4950000 ![] bcast_S_S4950000 main_c_1
  let main_v6 : IVec S4950000 32 := Host.remsi main_v2 main_v5
  let main_c_2 : IVec S_ 32 := constantI S_ 32 9900#32
  let main_v7 : IVec S4950000 32 := broadcastInDim S4950000 ![] bcast_S_S4950000 main_c_2
  let main_v8 : IVec S4950000 32 := Host.divsi main_v0 main_v7
  let main_c_3 : IVec S_ 32 := constantI S_ 32 100#32
  let main_v9 : IVec S4950000 32 := broadcastInDim S4950000 ![] bcast_S_S4950000 main_c_3
  let main_v10 : IVec S4950000 32 := muli main_v8 main_v9
  let main_v11 : IVec S1x4950000 32 := (extractStridedSlice S1x4950000 ![0, 0] · slices_S2x4950000_S1x4950000_0_0) main_arg3
  let main_v12 : IVec S4950000 32 := shapeCast S4950000 main_v11 shapeCasts_S1x4950000_S4950000
  let main_v13 : IVec S4950000 32 := addi main_v10 main_v4
  let main_v14 : IVec S4950000 1 := cmpi .eq main_v12 main_v13
  let main_v15 : IVec S1x4950000 32 := (extractStridedSlice S1x4950000 ![1, 0] · slices_S2x4950000_S1x4950000_1_0) main_arg3
  let main_v16 : IVec S4950000 32 := shapeCast S4950000 main_v15 shapeCasts_S1x4950000_S4950000
  let main_v17 : IVec S4950000 1 := cmpi .slt main_v6 main_v4
  fn_part1 (F := F) main_arg0 main_arg1 main_arg2 main_arg3 main_arg4 main_arg5 main_cst main_v6 main_v10 main_v14 main_v16 main_v17
-- ==== Kernel.lean ====
abbrev S500x2 : Shape := ⟨2, ![500, 2]⟩
abbrev S50000x3 : Shape := ⟨2, ![50000, 3]⟩
abbrev S500 : Shape := ⟨1, ![500]⟩
abbrev S2x4950000 : Shape := ⟨2, ![2, 4950000]⟩
abbrev S4950000x4 : Shape := ⟨2, ![4950000, 4]⟩
abbrev S50000 : Shape := ⟨1, ![50000]⟩
abbrev S4 : Shape := ⟨1, ![4]⟩
abbrev S25x20x2 : Shape := ⟨3, ![25, 20, 2]⟩
abbrev S500x100x3 : Shape := ⟨3, ![500, 100, 3]⟩
abbrev S25x1x20 : Shape := ⟨3, ![25, 1, 20]⟩
abbrev S500x100x99x4 : Shape := ⟨4, ![500, 100, 99, 4]⟩
abbrev S1x1x1x4 : Shape := ⟨4, ![1, 1, 1, 4]⟩
abbrev S_ : Shape := ⟨0, ![]⟩
abbrev S500x100x99 : Shape := ⟨3, ![500, 100, 99]⟩
abbrev S1x1 : Shape := ⟨2, ![1, 1]⟩
abbrev S1x20x2 : Shape := ⟨3, ![1, 20, 2]⟩
abbrev S20x100x3 : Shape := ⟨3, ![20, 100, 3]⟩
abbrev S1x1x20 : Shape := ⟨3, ![1, 1, 20]⟩
abbrev S20x100x99 : Shape := ⟨3, ![20, 100, 99]⟩
abbrev S8 : Shape := ⟨1, ![8]⟩
abbrev S1 : Shape := ⟨1, ![1]⟩
abbrev S20x2 : Shape := ⟨2, ![20, 2]⟩
abbrev S20x1 : Shape := ⟨2, ![20, 1]⟩
abbrev S20x8 : Shape := ⟨2, ![20, 8]⟩
abbrev S20x4x2 : Shape := ⟨3, ![20, 4, 2]⟩
abbrev S20x100x1 : Shape := ⟨3, ![20, 100, 1]⟩
abbrev S20x100x4 : Shape := ⟨3, ![20, 100, 4]⟩
abbrev S20x100x2 : Shape := ⟨3, ![20, 100, 2]⟩
abbrev S20x100 : Shape := ⟨2, ![20, 100]⟩
abbrev S20x1x100 : Shape := ⟨3, ![20, 1, 100]⟩
abbrev S20x4x100 : Shape := ⟨3, ![20, 4, 100]⟩
abbrev S20x100x100 : Shape := ⟨3, ![20, 100, 100]⟩
abbrev S20 : Shape := ⟨1, ![20]⟩
abbrev S1x20 : Shape := ⟨2, ![1, 20]⟩

abbrev nBuf : Space → Nat
  | .hbm => 18
  | .vmem => 9
  | .smem => 1
  | _ => 0

abbrev bufTy : (tb : Table) → Fin (tcTables nBuf tb) → BufTy
  | .hbm, ⟨0, _⟩ => ⟨S500x2, .f32⟩
  | .hbm, ⟨1, _⟩ => ⟨S50000x3, .f32⟩
  | .hbm, ⟨2, _⟩ => ⟨S500, .i32⟩
  | .hbm, ⟨3, _⟩ => ⟨S2x4950000, .i32⟩
  | .hbm, ⟨4, _⟩ => ⟨S4950000x4, .f32⟩
  | .hbm, ⟨5, _⟩ => ⟨S50000, .i32⟩
  | .hbm, ⟨6, _⟩ => ⟨S4, .f32⟩
  | .hbm, ⟨7, _⟩ => ⟨S25x20x2, .f32⟩
  | .hbm, ⟨8, _⟩ => ⟨S500x100x3, .f32⟩
  | .hbm, ⟨9, _⟩ => ⟨S25x1x20, .i32⟩
  | .hbm, ⟨10, _⟩ => ⟨S500x100x99x4, .f32⟩
  | .hbm, ⟨11, _⟩ => ⟨S1x1x1x4, .f32⟩
  | .hbm, ⟨12, _⟩ => ⟨S500x100x99x4, .f32⟩
  | .hbm, ⟨13, _⟩ => ⟨S500x100x99x4, .f32⟩
  | .hbm, ⟨14, _⟩ => ⟨S_, .f32⟩
  | .hbm, ⟨15, _⟩ => ⟨S500x100x99, .f32⟩
  | .hbm, ⟨16, _⟩ => ⟨S1x1, .f32⟩
  | .hbm, ⟨17, _⟩ => ⟨S_, .f32⟩
  | .local _ .vmem, ⟨0, _⟩ => ⟨S1x20x2, .f32⟩
  | .local _ .vmem, ⟨1, _⟩ => ⟨S1x20x2, .f32⟩
  | .local _ .vmem, ⟨2, _⟩ => ⟨S20x100x3, .f32⟩
  | .local _ .vmem, ⟨3, _⟩ => ⟨S20x100x3, .f32⟩
  | .local _ .vmem, ⟨4, _⟩ => ⟨S1x1x20, .i32⟩
  | .local _ .vmem, ⟨5, _⟩ => ⟨S1x1x20, .i32⟩
  | .local _ .vmem, ⟨6, _⟩ => ⟨S20x100x99, .f32⟩
  | .local _ .vmem, ⟨7, _⟩ => ⟨S20x100x99, .f32⟩
  | .local _ .vmem, ⟨8, _⟩ => ⟨S1x1, .f32⟩
  | .local _ .smem, ⟨0, _⟩ => ⟨S8, .f32⟩
  | _, _ => ⟨S500x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v174 : BitVec 1 := Scalar.cmpi .eq arg0 c24_i32
  let v175 : BitVec 32 := Scalar.extui v174
  let c0_i32_52 : BitVec 32 := 0#32
  let v176 : BitVec 1 := Scalar.cmpi .ne v175 c0_i32_52
  v176

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x20x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x100x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x20 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x100x99 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S500x2 : Shape := ⟨2, ![500, 2]⟩
abbrev S50000x3 : Shape := ⟨2, ![50000, 3]⟩
abbrev S500 : Shape := ⟨1, ![500]⟩
abbrev S2x4950000 : Shape := ⟨2, ![2, 4950000]⟩
abbrev S4950000x4 : Shape := ⟨2, ![4950000, 4]⟩
abbrev S50000 : Shape := ⟨1, ![50000]⟩
abbrev S3 : Shape := ⟨1, ![3]⟩
abbrev S4x4 : Shape := ⟨2, ![4, 4]⟩
abbrev S500x1 : Shape := ⟨2, ![500, 1]⟩
abbrev S_ : Shape := ⟨0, ![]⟩
abbrev S500x3 : Shape := ⟨2, ![500, 3]⟩
abbrev S500x1x3 : Shape := ⟨3, ![500, 1, 3]⟩
abbrev S500x3x3 : Shape := ⟨3, ![500, 3, 3]⟩
abbrev S500x3x1 : Shape := ⟨3, ![500, 3, 1]⟩
abbrev S500x3x4 : Shape := ⟨3, ![500, 3, 4]⟩
abbrev S500x1x1 : Shape := ⟨3, ![500, 1, 1]⟩
abbrev S500x1x4 : Shape := ⟨3, ![500, 1, 4]⟩
abbrev S500x4x4 : Shape := ⟨3, ![500, 4, 4]⟩
abbrev S50000x1 : Shape := ⟨2, ![50000, 1]⟩
abbrev S50000x4 : Shape := ⟨2, ![50000, 4]⟩
abbrev S50000x4x4 : Shape := ⟨3, ![50000, 4, 4]⟩
abbrev S50000x2 : Shape := ⟨2, ![50000, 2]⟩
abbrev S2 : Shape := ⟨1, ![2]⟩
abbrev S1x2 : Shape := ⟨2, ![1, 2]⟩
abbrev S1x4950000 : Shape := ⟨2, ![1, 4950000]⟩
abbrev S4950000 : Shape := ⟨1, ![4950000]⟩
abbrev S4950000x1 : Shape := ⟨2, ![4950000, 1]⟩
abbrev S4950000x2 : Shape := ⟨2, ![4950000, 2]⟩

abbrev nBuf : Space → Nat
  | .hbm => 254
  | .vmem => 0
  | .smem => 0
  | _ => 0

abbrev hbmTy0_0 (i : Nat) : BufTy := match i % 128 with
  | 0 => ⟨S500x2, .f32⟩
  | 1 => ⟨S50000x3, .f32⟩
  | 2 => ⟨S500, .i32⟩
  | 3 => ⟨S2x4950000, .i32⟩
  | 4 => ⟨S4950000x4, .f32⟩
  | 5 => ⟨S50000, .i32⟩
  | 6 => ⟨S3, .f32⟩
  | 7 => ⟨S4x4, .f32⟩
  | 8 => ⟨S500x1, .f32⟩
  | 9 => ⟨S500, .f32⟩
  | 10 => ⟨S500x1, .f32⟩
  | 11 => ⟨S500, .f32⟩
  | 12 => ⟨S_, .f32⟩
  | 13 => ⟨S500, .f32⟩
  | 14 => ⟨S500, .f32⟩
  | 15 => ⟨S_, .f32⟩
  | 16 => ⟨S500, .f32⟩
  | 17 => ⟨S500, .f32⟩
  | 18 => ⟨S500, .f32⟩
  | 19 => ⟨S500, .f32⟩
  | 20 => ⟨S500, .f32⟩
  | 21 => ⟨S500, .f32⟩
  | 22 => ⟨S500, .f32⟩
  | 23 => ⟨S500, .f32⟩
  | 24 => ⟨S500, .f32⟩
  | 25 => ⟨S500x1, .f32⟩
  | 26 => ⟨S500x1, .f32⟩
  | 27 => ⟨S500x1, .f32⟩
  | 28 => ⟨S500x3, .f32⟩
  | 29 => ⟨S500x3, .f32⟩
  | 30 => ⟨S500x3, .f32⟩
  | 31 => ⟨S500x3, .f32⟩
  | 32 => ⟨S_, .f32⟩
  | 33 => ⟨S500, .f32⟩
  | 34 => ⟨S500x1, .f32⟩
  | 35 => ⟨S500x1, .f32⟩
  | 36 => ⟨S_, .f32⟩
  | 37 => ⟨S500x1, .f32⟩
  | 38 => ⟨S500x1, .f32⟩
  | 39 => ⟨S500x3, .f32⟩
  | 40 => ⟨S500x3, .f32⟩
  | 41 => ⟨S500x1, .f32⟩
  | 42 => ⟨S500, .f32⟩
  | 43 => ⟨S500x1, .f32⟩
  | 44 => ⟨S500, .f32⟩
  | 45 => ⟨S500, .f32⟩
  | 46 => ⟨S500x1, .f32⟩
  | 47 => ⟨S500, .f32⟩
  | 48 => ⟨S500x1, .f32⟩
  | 49 => ⟨S500, .f32⟩
  | 50 => ⟨S500, .f32⟩
  | 51 => ⟨S500, .f32⟩
  | 52 => ⟨S500x1, .f32⟩
  | 53 => ⟨S500, .f32⟩
  | 54 => ⟨S500x1, .f32⟩
  | 55 => ⟨S500, .f32⟩
  | 56 => ⟨S500, .f32⟩
  | 57 => ⟨S500x1, .f32⟩
  | 58 => ⟨S500, .f32⟩
  | 59 => ⟨S500x1, .f32⟩
  | 60 => ⟨S500, .f32⟩
  | 61 => ⟨S500, .f32⟩
  | 62 => ⟨S500, .f32⟩
  | 63 => ⟨S500x1, .f32⟩
  | 64 => ⟨S500, .f32⟩
  | 65 => ⟨S500x1, .f32⟩
  | 66 => ⟨S500, .f32⟩
  | 67 => ⟨S500, .f32⟩
  | 68 => ⟨S500x1, .f32⟩
  | 69 => ⟨S500, .f32⟩
  | 70 => ⟨S500x1, .f32⟩
  | 71 => ⟨S500, .f32⟩
  | 72 => ⟨S500, .f32⟩
  | 73 => ⟨S500, .f32⟩
  | 74 => ⟨S500x1, .f32⟩
  | 75 => ⟨S500x1, .f32⟩
  | 76 => ⟨S500x1, .f32⟩
  | 77 => ⟨S500x3, .f32⟩
  | 78 => ⟨S500x3, .f32⟩
  | 79 => ⟨S_, .f32⟩
  | 80 => ⟨S500, .f32⟩
  | 81 => ⟨S500x1, .f32⟩
  | 82 => ⟨S500x1, .f32⟩
  | 83 => ⟨S_, .f32⟩
  | 84 => ⟨S500x1, .f32⟩
  | 85 => ⟨S500x1, .f32⟩
  | 86 => ⟨S500x3, .f32⟩
  | 87 => ⟨S500x3, .f32⟩
  | 88 => ⟨S500x1, .f32⟩
  | 89 => ⟨S500, .f32⟩
  | 90 => ⟨S500x1, .f32⟩
  | 91 => ⟨S500, .f32⟩
  | 92 => ⟨S500, .f32⟩
  | 93 => ⟨S500x1, .f32⟩
  | 94 => ⟨S500, .f32⟩
  | 95 => ⟨S500x1, .f32⟩
  | 96 => ⟨S500, .f32⟩
  | 97 => ⟨S500, .f32⟩
  | 98 => ⟨S500, .f32⟩
  | 99 => ⟨S500x1, .f32⟩
  | 100 => ⟨S500, .f32⟩
  | 101 => ⟨S500x1, .f32⟩
  | 102 => ⟨S500, .f32⟩
  | 103 => ⟨S500, .f32⟩
  | 104 => ⟨S500x1, .f32⟩
  | 105 => ⟨S500, .f32⟩
  | 106 => ⟨S500x1, .f32⟩
  | 107 => ⟨S500, .f32⟩
  | 108 => ⟨S500, .f32⟩
  | 109 => ⟨S500, .f32⟩
  | 110 => ⟨S500x1, .f32⟩
  | 111 => ⟨S500, .f32⟩
  | 112 => ⟨S500x1, .f32⟩
  | 113 => ⟨S500, .f32⟩
  | 114 => ⟨S500, .f32⟩
  | 115 => ⟨S500x1, .f32⟩
  | 116 => ⟨S500, .f32⟩
  | 117 => ⟨S500x1, .f32⟩
  | 118 => ⟨S500, .f32⟩
  | 119 => ⟨S500, .f32⟩
  | 120 => ⟨S500, .f32⟩
  | 121 => ⟨S500x1, .f32⟩
  | 122 => ⟨S500x1, .f32⟩
  | 123 => ⟨S500x1, .f32⟩
  | 124 => ⟨S500x3, .f32⟩
  | 125 => ⟨S500x3, .f32⟩
  | 126 => ⟨S_, .f32⟩
  | 127 => ⟨S500, .f32⟩
  | _ => ⟨S500x2, .f32⟩

abbrev hbmTy0_1 (i : Nat) : BufTy := match i % 128 with
  | 0 => ⟨S500x1, .f32⟩
  | 1 => ⟨S500x1, .f32⟩
  | 2 => ⟨S_, .f32⟩
  | 3 => ⟨S500x1, .f32⟩
  | 4 => ⟨S500x1, .f32⟩
  | 5 => ⟨S500x3, .f32⟩
  | 6 => ⟨S500x3, .f32⟩
  | 7 => ⟨S500x1x3, .f32⟩
  | 8 => ⟨S500x1x3, .f32⟩
  | 9 => ⟨S500x1x3, .f32⟩
  | 10 => ⟨S500x3x3, .f32⟩
  | 11 => ⟨S500x3x3, .f32⟩
  | 12 => ⟨S500x3x3, .f32⟩
  | 13 => ⟨S500x3, .f32⟩
  | 14 => ⟨S500x3, .f32⟩
  | 15 => ⟨S_, .f32⟩
  | 16 => ⟨S500x3x1, .f32⟩
  | 17 => ⟨S500x3x4, .f32⟩
  | 18 => ⟨S500x1x3, .f32⟩
  | 19 => ⟨S_, .f32⟩
  | 20 => ⟨S500x1x1, .f32⟩
  | 21 => ⟨S500x1x4, .f32⟩
  | 22 => ⟨S500x4x4, .f32⟩
  | 23 => ⟨S500x4x4, .f32⟩
  | 24 => ⟨S_, .f32⟩
  | 25 => ⟨S50000x1, .f32⟩
  | 26 => ⟨S50000x4, .f32⟩
  | 27 => ⟨S_, .i32⟩
  | 28 => ⟨S50000, .i32⟩
  | 29 => ⟨S50000, .i1⟩
  | 30 => ⟨S_, .i32⟩
  | 31 => ⟨S50000, .i32⟩
  | 32 => ⟨S50000, .i32⟩
  | 33 => ⟨S50000, .i32⟩
  | 34 => ⟨S50000x1, .i32⟩
  | 35 => ⟨S50000x4x4, .f32⟩
  | 36 => ⟨S50000x4, .f32⟩
  | 37 => ⟨S50000x2, .f32⟩
  | 38 => ⟨S_, .f32⟩
  | 39 => ⟨S2, .f32⟩
  | 40 => ⟨S1x2, .f32⟩
  | 41 => ⟨S50000x2, .f32⟩
  | 42 => ⟨S50000x2, .f32⟩
  | 43 => ⟨S_, .f32⟩
  | 44 => ⟨S_, .f32⟩
  | 45 => ⟨S50000x2, .f32⟩
  | 46 => ⟨S50000x2, .f32⟩
  | 47 => ⟨S1x4950000, .i32⟩
  | 48 => ⟨S4950000, .i32⟩
  | 49 => ⟨S_, .i32⟩
  | 50 => ⟨S4950000, .i32⟩
  | 51 => ⟨S4950000, .i1⟩
  | 52 => ⟨S_, .i32⟩
  | 53 => ⟨S4950000, .i32⟩
  | 54 => ⟨S4950000, .i32⟩
  | 55 => ⟨S4950000, .i32⟩
  | 56 => ⟨S4950000x1, .i32⟩
  | 57 => ⟨S4950000x2, .f32⟩
  | 58 => ⟨S1x4950000, .i32⟩
  | 59 => ⟨S4950000, .i32⟩
  | 60 => ⟨S_, .i32⟩
  | 61 => ⟨S4950000, .i32⟩
  | 62 => ⟨S4950000, .i1⟩
  | 63 => ⟨S_, .i32⟩
  | 64 => ⟨S4950000, .i32⟩
  | 65 => ⟨S4950000, .i32⟩
  | 66 => ⟨S4950000, .i32⟩
  | 67 => ⟨S4950000x1, .i32⟩
  | 68 => ⟨S4950000x2, .f32⟩
  | 69 => ⟨S4950000x2, .f32⟩
  | 70 => ⟨S4950000x2, .f32⟩
  | 71 => ⟨S_, .f32⟩
  | 72 => ⟨S4950000, .f32⟩
  | 73 => ⟨S4950000, .f32⟩
  | 74 => ⟨S4950000x1, .f32⟩
  | 75 => ⟨S4950000, .f32⟩
  | 76 => ⟨S4950000x4, .f32⟩
  | 77 => ⟨S4950000, .f32⟩
  | 78 => ⟨S4950000, .f32⟩
  | 79 => ⟨S4950000, .f32⟩
  | 80 => ⟨S_, .f32⟩
  | 81 => ⟨S_, .f32⟩
  | 82 => ⟨S4950000, .f32⟩
  | 83 => ⟨S4950000, .f32⟩
  | 84 => ⟨S4950000, .f32⟩
  | 85 => ⟨S_, .f32⟩
  | 86 => ⟨S_, .f32⟩
  | 87 => ⟨S4950000x4, .f32⟩
  | 88 => ⟨S4950000x4, .f32⟩
  | 89 => ⟨S4950000x2, .f32⟩
  | 90 => ⟨S4950000x2, .f32⟩
  | 91 => ⟨S4950000x2, .f32⟩
  | 92 => ⟨S4950000x2, .f32⟩
  | 93 => ⟨S_, .f32⟩
  | 94 => ⟨S4950000, .f32⟩
  | 95 => ⟨S4950000, .f32⟩
  | 96 => ⟨S4950000, .f32⟩
  | 97 => ⟨S4950000, .f32⟩
  | 98 => ⟨S4950000, .f32⟩
  | 99 => ⟨S4950000, .f32⟩
  | 100 => ⟨S1x4950000, .i32⟩
  | 101 => ⟨S4950000, .i32⟩
  | 102 => ⟨S_, .i32⟩
  | 103 => ⟨S4950000, .i32⟩
  | 104 => ⟨S4950000, .i1⟩
  | 105 => ⟨S_, .i32⟩
  | 106 => ⟨S4950000, .i32⟩
  | 107 => ⟨S4950000, .i32⟩
  | 108 => ⟨S4950000, .i32⟩
  | 109 => ⟨S4950000x1, .i32⟩
  | 110 => ⟨S4950000, .i32⟩
  | 111 => ⟨S_, .f32⟩
  | 112 => ⟨S500, .f32⟩
  | 113 => ⟨S4950000x1, .i32⟩
  | 114 => ⟨S500, .f32⟩
  | 115 => ⟨S500, .f32⟩
  | 116 => ⟨S_, .f32⟩
  | 117 => ⟨S500, .f32⟩
  | 118 => ⟨S500, .f32⟩
  | 119 => ⟨S500, .f32⟩
  | 120 => ⟨S500, .f32⟩
  | 121 => ⟨S500, .f32⟩
  | 122 => ⟨S_, .f32⟩
  | 123 => ⟨S_, .f32⟩
  | 124 => ⟨S_, .f32⟩
  | 125 => ⟨S_, .f32⟩
  | _ => ⟨S500x2, .f32⟩

abbrev hbmTy (i : Nat) : BufTy := match i / 128 with
  | 0 => hbmTy0_0 i
  | 1 => hbmTy0_1 i
  | _ => ⟨S500x2, .f32⟩

abbrev bufTy : (tb : Table) → Fin (tcTables nBuf tb) → BufTy
  | .hbm, ⟨i, _⟩ => hbmTy i
  | _, _ => ⟨S500x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call1_v0 : Ref sig .tc := ⟨.hbm, 78, rfl⟩
abbrev main_call1_cst : Ref sig .tc := ⟨.hbm, 79, rfl⟩
abbrev main_call1_v1 : Ref sig .tc := ⟨.hbm, 80, rfl⟩
abbrev main_call1_v2 : Ref sig .tc := ⟨.hbm, 81, rfl⟩
abbrev main_v63 : Ref sig .tc := ⟨.hbm, 82, rfl⟩
abbrev main_cst_4 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_call2_v0 : Ref sig .tc := ⟨.hbm, 125, rfl⟩
abbrev main_call2_cst : Ref sig .tc := ⟨.hbm, 126, rfl⟩
abbrev main_call2_v1 : Ref sig .tc := ⟨.hbm, 127, rfl⟩
abbrev main_call2_v2 : Ref sig .tc := ⟨.hbm, 128, rfl⟩
abbrev main_v105 : Ref sig .tc := ⟨.hbm, 129, rfl⟩
abbrev main_cst_5 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_6 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_7 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_8 : Ref sig .tc := ⟨.hbm, 152, rfl⟩
abbrev main_v125 : Ref sig .tc := ⟨.hbm, 153, rfl⟩
abbrev main_v126 : Ref sig .tc := ⟨.hbm, 154, rfl⟩
abbrev main_c : Ref sig .tc := ⟨.hbm, 155, rfl⟩
abbrev main_v127 : Ref sig .tc := ⟨.hbm, 156, rfl⟩
abbrev main_v128 : Ref sig .tc := ⟨.hbm, 157, rfl⟩
abbrev main_c_9 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_10 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_11 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_c_12 : Ref sig .tc := ⟨.hbm, 177, rfl⟩
abbrev main_v145 : Ref sig .tc := ⟨.hbm, 178, rfl⟩
abbrev main_v146 : Ref sig .tc := ⟨.hbm, 179, rfl⟩
abbrev main_c_13 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_c_14 : Ref sig .tc := ⟨.hbm, 188, rfl⟩
abbrev main_v154 : Ref sig .tc := ⟨.hbm, 189, rfl⟩
abbrev main_v155 : Ref sig .tc := ⟨.hbm, 190, rfl⟩
abbrev main_c_15 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_call3_v0 : Ref sig .tc := ⟨.hbm, 198, rfl⟩
abbrev main_call3_cst : Ref sig .tc := ⟨.hbm, 199, rfl⟩
abbrev main_call3_v1 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_cst_16 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_cst_17 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_call4_v0 : Ref sig .tc := ⟨.hbm, 220, rfl⟩
abbrev main_call4_cst : Ref sig .tc := ⟨.hbm, 221, rfl⟩
abbrev main_call4_v1 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_c_18 : Ref sig .tc := ⟨.hbm, 230, rfl⟩
abbrev main_v186 : Ref sig .tc := ⟨.hbm, 231, rfl⟩
abbrev main_v187 : Ref sig .tc := ⟨.hbm, 232, rfl⟩
abbrev main_c_19 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_cst_20 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_cst_21 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_cst_22 : Ref sig .tc := ⟨.hbm, 250, rfl⟩
abbrev main_v202 : Ref sig .tc := ⟨.hbm, 251, rfl⟩
abbrev main_cst_23 : Ref sig .tc := ⟨.hbm, 252, rfl⟩
abbrev main_v203 : Ref sig .tc := ⟨.hbm, 253, rfl⟩

abbrev nD : Nat := 1
abbrev τ : Topo := Topo.v7x

variable {F : FTy → Type} [FloatOps F]
-- ==== Proof.BodyI.lean ====
module

public import proofs.«01_k».proof.Proof.Gen.KernelIdeal.Frame
public import proofs.«01_k».proof.Proof.Gen.KernelIdeal.Skeleton
public import Idealize.ShloMosaic.Lib.CellWrites
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken at this point: the accumulators are cleared. -/
abbrev clears (i : grid0.Coords) : Prop :=
  (Scalar.cmpi .ne (Scalar.extui (Scalar.cmpi .eq (BitVec.ofNat 32 (i 0).val) 0#32)) 0#32) = 1#1
/-- The body's last branch is taken at this point: the result is stored. -/
abbrev stores (i : grid0.Coords) : Prop := k0_cond2 i = 1#1

/-! ## What one point computes -/

/-- The projected coordinates' products of one block: row sums of squares, the two factors of the Gram product, their column form. -/
abbrev pt20 (x0 : Vec F S1x20x2 .f32) (x1 : Vec F S20x100x3 .f32) : FVec F S20x100x1 .f32 :=
  k0_pay20 (k0_pay6 x0) (k0_pay7 x0) (k0_pay8 x0) (k0_pay10 x0) (k0_pay11 x0) (k0_pay12 x0) (k0_pay14 x0) (k0_pay15 x0) (k0_pay16 x0) x1
abbrev pt21 (x0 : Vec F S1x20x2 .f32) (x1 : Vec F S20x100x3 .f32) : FVec F S20x100x4 .f32 :=
  k0_pay21 (k0_pay6 x0) (k0_pay7 x0) (k0_pay8 x0) (k0_pay10 x0) (k0_pay11 x0) (k0_pay12 x0) (k0_pay14 x0) (k0_pay15 x0) (k0_pay16 x0) x1
abbrev pt22 (x0 : Vec F S1x20x2 .f32) (x1 : Vec F S20x100x3 .f32) : FVec F S20x1x100 .f32 :=
  k0_pay22 (k0_pay6 x0) (k0_pay7 x0) (k0_pay8 x0) (k0_pay10 x0) (k0_pay11 x0) (k0_pay12 x0) (k0_pay14 x0) (k0_pay15 x0) (k0_pay16 x0) x1
abbrev pt23 (x0 : Vec F S1x20x2 .f32) (x1 : Vec F S20x100x3 .f32) : FVec F S20x100 .f32 :=
  k0_pay23 (k0_pay6 x0) (k0_pay7 x0) (k0_pay8 x0) (k0_pay10 x0) (k0_pay11 x0) (k0_pay12 x0) (k0_pay14 x0) (k0_pay15 x0) (k0_pay16 x0) x1
/-- Per graph of the block, the sum over its edges of the squared quotient of screen length and wanted length. -/
def sqSum (x0 : Vec F S1x20x2 .f32) (x1 : Vec F S20x100x3 .f32) (x3 : Vec F S20x100x99 .f32) : FVec F S20 .f32 :=
  k0_pay25 (pt20 x0 x1) (pt21 x0 x1) (pt22 x0 x1) (pt23 x0 x1) x3
/-- Per graph of the block, the sum over its edges of the quotient itself. -/
def quoSum (x0 : Vec F S1x20x2 .f32) (x1 : Vec F S20x100x3 .f32) (x3 : Vec F S20x100x99 .f32) : FVec F S20 .f32 :=
  k0_pay26 (pt20 x0 x1) (pt21 x0 x1) (pt22 x0 x1) (pt23 x0 x1) x3

/-- Cell `k` of the eight accumulator cells. -/
def cell (k : Fin 8) : S8.Idx := fun | ⟨0, _⟩ => k

/-- What a point leaves in the accumulator cells that held `xs`: the first five each raised by the block's own term. -/
def step (x0 : Vec F S1x20x2 .f32) (x1 : Vec F S20x100x3 .f32) (x2 : Vec F S1x1x20 .i32) (x3 : Vec F S20x100x99 .f32) (xs : Vec F S8 .f32) : Vec F S8 .f32 := fun y =>
  if (y 0).val = 4 then k0_pay34 (k0_pay27 x2) (k0_pay28 x2) (Scalar.ofBits .f32 0x447A0000#32) (xs (cell 4))
  else if (y 0).val = 3 then k0_pay33 (quoSum x0 x1 x3) (k0_pay28 x2) (Scalar.ofBits .f32 0x447A0000#32) (xs (cell 3))
  else if (y 0).val = 2 then k0_pay32 (sqSum x0 x1 x3) (k0_pay28 x2) (Scalar.ofBits .f32 0x447A0000#32) (xs (cell 2))
  else if (y 0).val = 1 then k0_pay31 (quoSum x0 x1 x3) (xs (cell 1))
  else if (y 0).val = 0 then k0_pay30 (sqSum x0 x1 x3) (xs (cell 0))
  else xs y

/-- The cells cleared: the first five at zero, the rest as they were. -/
def cleared (xs : Vec F S8 .f32) : Vec F S8 .f32 := fun y => if (y 0).val < 5 then Scalar.ofBits .f32 0x00000000#32 else xs y

/-- The result stored from the cells `xs`. -/
def answer (xs : Vec F S8 .f32) : FVec F S1x1 .f32 := k0_pay1 (xs (cell 1)) (xs (cell 0)) (xs (cell 2)) (xs (cell 3)) (xs (cell 4))

section Words
variable {κ : Kind} {M : Memref sig κ .smem S8 .f32}
/-- One accumulator cell loaded from a whole buffer that reads `xs`. -/
theorem load_cell (h : M.IsWhole) (xs : Vec F S8 .f32) (k : Fin 8) {off : Fin 1 → ℕ} (hoff : off = ![k.val])
    (inb : ∀ a, off a + S1.size a ≤ S8.size a) (x : (Rect.unit (s := S8) off S1.size inb).toLoadRect.shape.Idx) :
    View.readAt (Elt F) M.view (Rect.unit (s := S8) off S1.size inb).toLoadRect (h.unread xs) x = xs (cell k) := by
  subst hoff
  rw [h.readAt_unread]
  refine congrArg xs (funext fun a => ?_)
  obtain rfl : a = 0 := Subsingleton.elim _ _
  have hx : (x 0).val < 1 := (x 0).isLt
  refine Fin.ext ?_
  have e : ((Rect.unit (s := S8) ![k.val] S1.size inb).toLoadRect.idx x 0).val = k.val + 1 * (x 0).val := rfl
  rw [e]
  show k.val + 1 * (x 0).val = k.val
  omega
end Words

set_option maxHeartbeats 1000000 in
/-- The body at a point neither first nor last: the inputs and the result's block stay, the cells go up by the block's terms. -/
theorem run_mid (c : Dev nD) (i : grid0.Coords) (arg1 : Memref sig .tc .vmem S1x20x2 .f32) (harg1 : arg1.IsWhole) (arg2 : Memref sig .tc .vmem S20x100x3 .f32) (harg2 : arg2.IsWhole) (arg3 : Memref sig .tc .vmem S1x1x20 .i32) (harg3 : arg3.IsWhole) (arg4 : Memref sig .tc .vmem S20x100x99 .f32) (harg4 : arg4.IsWhole) (arg5 : Memref sig .tc .vmem S1x1 .f32) (harg5 : arg5.IsWhole) (arg6 : Memref sig .tc .smem S8 .f32) (harg6 : arg6.IsWhole)
    (hc0 : ¬clears i) (hc1 : ¬stores i)
    (x0 : Vec F S1x20x2 .f32) (x1 : Vec F S20x100x3 .f32) (x2 : Vec F S1x1x20 .i32) (x3 : Vec F S20x100x99 .f32) (x4 : Vec F S1x1 .f32) (xs : Vec F S8 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (step x0 x1 x2 x3 xs)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    exact harg5.read_unread _
  iexists _; isplitr
  swap; · iexact HS
  ipureintro
  have e0 : View.readAt (Elt F) arg1.view (Rect.unit (s := S1x20x2) ![0, 0, 0] S1x20x2.size inb_S1x20x2_S1x20x2_0_0_0).toLoadRect (harg1.unread x0) = x0 :=
    (View.readAt_full _ _ _).trans (harg1.read_unread _)
  have e1 : View.readAt (Elt F) arg2.view (Rect.unit (s := S20x100x3) ![0, 0, 0] S20x100x3.size inb_S20x100x3_S20x100x3_0_0_0).toLoadRect (harg2.unread x1) = x1 :=
    (View.readAt_full _ _ _).trans (harg2.read_unread _)
  have e2 : View.readAt (Elt F) arg3.view (Rect.unit (s := S1x1x20) ![0, 0, 0] S1x1x20.size inb_S1x1x20_S1x1x20_0_0_0).toLoadRect (harg3.unread x2) = x2 :=
    (View.readAt_full _ _ _).trans (harg3.read_unread _)
  have e3 : View.readAt (Elt F) arg4.view (Rect.unit (s := S20x100x99) ![0, 0, 0] S20x100x99.size inb_S20x100x99_S20x100x99_0_0_0).toLoadRect (harg4.unread x3) = x3 :=
    (View.readAt_full _ _ _).trans (harg4.read_unread _)
  rw [e0, e1, e2, e3]
  funext y
  rw [View.read_writes_cons_cell, View.read_writes_cons_cell, View.read_writes_cons_cell, View.read_writes_cons_cell, View.read_writes_cons_cell]
  unfold step
  have r0 : run_mid.sl.r c arg6 harg6 xs = xs (cell 0) := load_cell harg6 xs 0 rfl _ _
  have r1 : run_mid.sl.r_1 c arg6 harg6 xs = xs (cell 1) := load_cell harg6 xs 1 rfl _ _
  have r2 : run_mid.sl.r_2 c arg6 harg6 xs = xs (cell 2) := load_cell harg6 xs 2 rfl _ _
  have r3 : run_mid.sl.r_3 c arg6 harg6 xs = xs (cell 3) := load_cell harg6 xs 3 rfl _ _
  have r4 : run_mid.sl.r_4 c arg6 harg6 xs = xs (cell 4) := load_cell harg6 xs 4 rfl _ _
  rw [r0, r1, r2, r3, r4, View.writes_nil, harg6.read_unread]
  rfl

set_option maxHeartbeats 1000000 in
/-- The body at the first point: the cells are cleared and go up by the block's terms. -/
theorem run_first (c : Dev nD) (i : grid0.Coords) (arg1 : Memref sig .tc .vmem S1x20x2 .f32) (harg1 : arg1.IsWhole) (arg2 : Memref sig .tc .vmem S20x100x3 .f32) (harg2 : arg2.IsWhole) (arg3 : Memref sig .tc .vmem S1x1x20 .i32) (harg3 : arg3.IsWhole) (arg4 : Memref sig .tc .vmem S20x100x99 .f32) (harg4 : arg4.IsWhole) (arg5 : Memref sig .tc .vmem S1x1 .f32) (harg5 : arg5.IsWhole) (arg6 : Memref sig .tc .smem S8 .f32) (harg6 : arg6.IsWhole)
    (hc0 : clears i) (hc1 : ¬stores i)
    (x0 : Vec F S1x20x2 .f32) (x1 : Vec F S20x100x3 .f32) (x2 : Vec F S1x1x20 .i32) (x3 : Vec F S20x100x99 .f32) (x4 : Vec F S1x1 .f32) (xs : Vec F S8 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (step x0 x1 x2 x3 (cleared xs))) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    exact harg5.read_unread _
  iexists _; isplitr
  swap; · iexact HS
  ipureintro
  have e0 : View.readAt (Elt F) arg1.view (Rect.unit (s := S1x20x2) ![0, 0, 0] S1x20x2.size inb_S1x20x2_S1x20x2_0_0_0).toLoadRect (harg1.unread x0) = x0 :=
    (View.readAt_full _ _ _).trans (harg1.read_unread _)
  have e1 : View.readAt (Elt F) arg2.view (Rect.unit (s := S20x100x3) ![0, 0, 0] S20x100x3.size inb_S20x100x3_S20x100x3_0_0_0).toLoadRect (harg2.unread x1) = x1 :=
    (View.readAt_full _ _ _).trans (harg2.read_unread _)
  have e2 : View.readAt (Elt F) arg3.view (Rect.unit (s := S1x1x20) ![0, 0, 0] S1x1x20.size inb_S1x1x20_S1x1x20_0_0_0).toLoadRect (harg3.unread x2) = x2 :=
    (View.readAt_full _ _ _).trans (harg3.read_unread _)
  have e3 : View.readAt (Elt F) arg4.view (Rect.unit (s := S20x100x99) ![0, 0, 0] S20x100x99.size inb_S20x100x99_S20x100x99_0_0_0).toLoadRect (harg4.unread x3) = x3 :=
    (View.readAt_full _ _ _).trans (harg4.read_unread _)
  rw [e0, e1, e2, e3]
  funext y
  rw [View.read_writes_cons_cell, View.read_writes_cons_cell, View.read_writes_cons_cell, View.read_writes_cons_cell, View.read_writes_cons_cell]
  rw [View.read_writes_cons_cell, View.read_writes_cons_cell, View.read_writes_cons_cell, View.read_writes_cons_cell, View.read_writes_cons_cell, View.writes_nil, harg6.read_unread]
  have hy : (y 0).val < 8 := (y 0).isLt
  unfold step
  have hl : cleared xs y = if (y 0).val = 4 then Scalar.ofBits .f32 0x00000000#32 else if (y 0).val = 3 then Scalar.ofBits .f32 0x00000000#32
      else if (y 0).val = 2 then Scalar.ofBits .f32 0x00000000#32 else if (y 0).val = 1 then Scalar.ofBits .f32 0x00000000#32
      else if (y 0).val = 0 then Scalar.ofBits .f32 0x00000000#32 else xs y := by
    unfold cleared; split_ifs <;> first | rfl | omega
  rw [hl]
  rfl

set_option maxHeartbeats 1000000 in
/-- The body at the last point: the cells go up by the block's terms and the result is stored from them. -/
theorem run_last (c : Dev nD) (i : grid0.Coords) (arg1 : Memref sig .tc .vmem S1x20x2 .f32) (harg1 : arg1.IsWhole) (arg2 : Memref sig .tc .vmem S20x100x3 .f32) (harg2 : arg2.IsWhole) (arg3 : Memref sig .tc .vmem S1x1x20 .i32) (harg3 : arg3.IsWhole) (arg4 : Memref sig .tc .vmem S20x100x99 .f32) (harg4 : arg4.IsWhole) (arg5 : Memref sig .tc .vmem S1x1 .f32) (harg5 : arg5.IsWhole) (arg6 : Memref sig .tc .smem S8 .f32) (harg6 : arg6.IsWhole)
    (hc0 : ¬clears i) (hc1 : stores i)
    (x0 : Vec F S1x20x2 .f32) (x1 : Vec F S20x100x3 .f32) (x2 : Vec F S1x1x20 .i32) (x3 : Vec F S20x100x99 .f32) (x4 : Vec F S1x1 .f32) (xs : Vec F S8 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (answer (step x0 x1 x2 x3 xs)) ∗ owns (c : Thread nD τ) arg6 fullShare (step x0 x1 x2 x3 xs)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | sl_exact hc0 | sl_exact hc1)
  sl_step
  have e0 : View.readAt (Elt F) arg1.view (Rect.unit (s := S1x20x2) ![0, 0, 0] S1x20x2.size inb_S1x20x2_S1x20x2_0_0_0).toLoadRect (harg1.unread x0) = x0 :=
    (View.readAt_full _ _ _).trans (harg1.read_unread _)
  have e1 : View.readAt (Elt F) arg2.view (Rect.unit (s := S20x100x3) ![0, 0, 0] S20x100x3.size inb_S20x100x3_S20x100x3_0_0_0).toLoadRect (harg2.unread x1) = x1 :=
    (View.readAt_full _ _ _).trans (harg2.read_unread _)
  have e2 : View.readAt (Elt F) arg3.view (Rect.unit (s := S1x1x20) ![0, 0, 0] S1x1x20.size inb_S1x1x20_S1x1x20_0_0_0).toLoadRect (harg3.unread x2) = x2 :=
    (View.readAt_full _ _ _).trans (harg3.read_unread _)
  have e3 : View.readAt (Elt F) arg4.view (Rect.unit (s := S20x100x99) ![0, 0, 0] S20x100x99.size inb_S20x100x99_S20x100x99_0_0_0).toLoadRect (harg4.unread x3) = x3 :=
    (View.readAt_full _ _ _).trans (harg4.read_unread _)
  have r0 : run_last.sl.r c arg6 harg6 xs = xs (cell 0) := load_cell harg6 xs 0 rfl _ _
  have r1 : run_last.sl.r_1 c arg6 harg6 xs = xs (cell 1) := load_cell harg6 xs 1 rfl _ _
  have r2 : run_last.sl.r_2 c arg6 harg6 xs = xs (cell 2) := load_cell harg6 xs 2 rfl _ _
  have r3 : run_last.sl.r_3 c arg6 harg6 xs = xs (cell 3) := load_cell harg6 xs 3 rfl _ _
  have r4 : run_last.sl.r_4 c arg6 harg6 xs = xs (cell 4) := load_cell harg6 xs 4 rfl _ _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    have r5 : run_last.sl.r_5 c arg1 harg1 arg2 harg2 arg4 harg4 arg6 harg6 x0 x1 x3 xs = step x0 x1 x2 x3 xs (cell 1) := by
      unfold run_last.sl.r_5; rw [e0, e1, e3, r1]; rfl
    have r6 : run_last.sl.r_6 c arg1 harg1 arg2 harg2 arg4 harg4 arg6 harg6 x0 x1 x3 xs = step x0 x1 x2 x3 xs (cell 0) := by
      unfold run_last.sl.r_6; rw [e0, e1, e3, r0]; rfl
    have r7 : run_last.sl.r_7 c arg1 harg1 arg2 harg2 arg3 harg3 arg4 harg4 arg6 harg6 x0 x1 x2 x3 xs = step x0 x1 x2 x3 xs (cell 2) := by
      unfold run_last.sl.r_7; rw [e0, e1, e2, e3, r2]; rfl
    have r8 : run_last.sl.r_8 c arg1 harg1 arg2 harg2 arg3 harg3 arg4 harg4 arg6 harg6 x0 x1 x2 x3 xs = step x0 x1 x2 x3 xs (cell 3) := by
      unfold run_last.sl.r_8; rw [e0, e1, e2, e3, r3]; rfl
    have r9 : run_last.sl.r_9 c arg3 harg3 arg6 harg6 x2 xs = step x0 x1 x2 x3 xs (cell 4) := by
      unfold run_last.sl.r_9; rw [e2, r4]; rfl
    rw [r5, r6, r7, r8, r9]
    exact View.read_writes_full _ _ _ _ _
  iexists _; isplitr
  swap; · iexact HS
  ipureintro
  rw [e0, e1, e2, e3]
  funext y
  rw [View.read_writes_cons_cell, View.read_writes_cons_cell, View.read_writes_cons_cell, View.read_writes_cons_cell, View.read_writes_cons_cell]
  unfold step
  rw [r0, r1, r2, r3, r4, View.writes_nil, harg6.read_unread]
  rfl

end Cert.KernelIdeal.Hand

end
-- ==== Proof.FrameI.lean ====
module

public import proofs.«01_k».proof.Proof.BodyI
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- The cells are cleared at the first point only. -/
theorem clears_iff : ∀ t : Fin cfg0.N, clears (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [clears, e0]
    word_cmp
   : ∀ t : Fin grid0.N, clears (grid0.coords t) ↔ t.val % 25 = 0)

/-- The result is stored at the last point only. -/
theorem stores_iff : ∀ t : Fin cfg0.N, stores (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [stores, k0_cond2, e0]
    word_cmp
   : ∀ t : Fin grid0.N, stores (grid0.coords t) ↔ t.val % 25 = 24)

/-- Where nothing is stored the result's window is idle, -/
theorem idle4 : ∀ t : Fin cfg0.N, ¬stores (grid0.coords t) → cfg0.idle 4 (grid0.coords t) = true := by decide +kernel
/-- and its block is not written back there; -/
theorem noFlush4 : ∀ t : Fin cfg0.N, ¬stores (grid0.coords t) → (cfg0.win 4).flush t = false := by decide +kernel
/-- where it is stored the window is live. -/
theorem live4 : ∀ t : Fin cfg0.N, stores (grid0.coords t) → cfg0.idle 4 (grid0.coords t) = false := by decide +kernel

abbrev ms0 (t : Fin cfg0.N) : Memref sig .tc .vmem S1x20x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S20x100x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x20 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S20x100x99 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The accumulator cells, a whole buffer of the kernel's own. -/
abbrev scM : Memref sig .tc .smem S8 .f32 := Memref.whole cc0_scratch0

/-- What the launch hands the region: the accumulator cells at anything, the generator register at some state. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## The accumulator cells point by point -/

/-- The accumulator cells after point `n`, when they held `d` before the first point. -/
def acc (c : Dev nD) (d : Vec F S8 .f32) : (n : ℕ) → n < cfg0.N → Vec F S8 .f32
  | 0, h => step (iblk m c 0 ⟨0, h⟩) (iblk m c 1 ⟨0, h⟩) (iblk m c 2 ⟨0, h⟩) (iblk m c 3 ⟨0, h⟩) (cleared d)
  | n + 1, h => step (iblk m c 0 ⟨n + 1, h⟩) (iblk m c 1 ⟨n + 1, h⟩) (iblk m c 2 ⟨n + 1, h⟩) (iblk m c 3 ⟨n + 1, h⟩) (acc c d n (Nat.lt_of_succ_lt h))

/-- At the first point the cells are cleared before the block's terms are added. -/
theorem acc_first (c : Dev nD) (d : Vec F S8 .f32) (t : Fin cfg0.N) (h0 : t.val = 0) :
    acc m c d t.val t.isLt = step (iblk m c 0 t) (iblk m c 1 t) (iblk m c 2 t) (iblk m c 3 t) (cleared d) := by
  obtain ⟨n, hn⟩ := t
  cases n with
  | zero => rfl
  | succ n => exact absurd h0 (Nat.succ_ne_zero n)

/-- At a later point the block's terms are added to what the point before left. -/
theorem acc_later (c : Dev nD) (d : Vec F S8 .f32) (t : Fin cfg0.N) (h0 : t.val ≠ 0) :
    acc m c d t.val t.isLt = step (iblk m c 0 t) (iblk m c 1 t) (iblk m c 2 t) (iblk m c 3 t) (acc m c d (t.val - 1) (Nat.lt_of_le_of_lt (Nat.sub_le _ _) t.isLt)) := by
  obtain ⟨n, hn⟩ := t
  cases n with
  | zero => exact absurd rfl h0
  | succ n => rfl

/-- A point's new value of one of the first five cells depends on that cell only. -/
theorem step_congr (x0 : Vec F S1x20x2 .f32) (x1 : Vec F S20x100x3 .f32) (x2 : Vec F S1x1x20 .i32) (x3 : Vec F S20x100x99 .f32)
    {a b : Vec F S8 .f32} (h : ∀ k : Fin 8, k.val < 5 → a (cell k) = b (cell k)) (k : Fin 8) (hk : k.val < 5) :
    step x0 x1 x2 x3 a (cell k) = step x0 x1 x2 x3 b (cell k) := by
  unfold step
  rw [h 0 (by decide), h 1 (by decide), h 2 (by decide), h 3 (by decide), h 4 (by decide), h k hk]

/-- The first five cells after a point do not depend on what the cells held before the first. -/
theorem acc_indep (c : Dev nD) (d d' : Vec F S8 .f32) : ∀ (n : ℕ) (hn : n < cfg0.N) (k : Fin 8), k.val < 5 →
    acc m c d n hn (cell k) = acc m c d' n hn (cell k)
  | 0, hn, k, hk => step_congr _ _ _ _ (fun j hj => by
      have hj' : ((cell j) 0).val < 5 := hj
      unfold cleared; rw [if_pos hj', if_pos hj']) k hk
  | n + 1, hn, k, hk => step_congr _ _ _ _ (fun j hj => acc_indep c d d' n (Nat.lt_of_succ_lt hn) j hj) k hk

/-- Cells to state the result with. -/
def anyCells : Vec F S8 .f32 := fun _ => Scalar.ofBits .f32 0x00000000#32

/-- The answer after a point does not depend on what the cells held before the first. -/
theorem answer_indep (c : Dev nD) (d : Vec F S8 .f32) (n : ℕ) (hn : n < cfg0.N) :
    answer (acc m c d n hn) = answer (acc m c anyCells n hn) := by
  unfold answer
  rw [acc_indep m c d anyCells n hn 0 (by decide), acc_indep m c d anyCells n hn 1 (by decide), acc_indep m c d anyCells n hn 2 (by decide),
    acc_indep m c d anyCells n hn 3 (by decide), acc_indep m c d anyCells n hn 4 (by decide)]

/-- Between points: before the first the cells hold anything, later what the points before made of it. -/
def PhiS (c : Dev nD) : (n : ℕ) → n ≤ cfg0.N → sProp 𝕄
  | 0, _ => Pipeline.ΦA spec0 c
  | n + 1, hn => iprop((∃ d, owns (c : Thread nD τ) scM fullShare (acc m c d n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop((∃ d, owns (c : Thread nD τ) scM fullShare (acc m c d n hn)) ∗ (∃ r, prngReg c r)) := rfl

theorem PhiS_pos (c : Dev nD) (n : ℕ) (h : n ≤ cfg0.N) (hz : n ≠ 0) :
    PhiS m c n h = iprop((∃ d, owns (c : Thread nD τ) scM fullShare (acc m c d (n - 1) (by omega))) ∗ (∃ r, prngReg c r)) := by
  cases n with
  | zero => exact absurd rfl hz
  | succ n => rfl

/-! ## The pipeline's proof data -/

/-- The arrays as the region finds them; after a point the inputs' buffers at their blocks and the result's at the answer of the
    cells so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => answer (acc m c anyCells t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = answer (acc m c anyCells t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) :=
  (show (dats m 0 c).leavesExact 0 t = owns (c : Thread nD τ) (ms0 t) fullShare ((dats m 0 c).after 0 t) from by
    unfold Dat.leavesExact; rw [show cfg0.idle 0 (grid0.coords t) = false from rfl]).trans (by rw [after0])
theorem leaves1 (c : Dev nD) (t : Fin cfg0.N) : (dats m 0 c).leavesExact 1 t = owns (c : Thread nD τ) (ms1 t) fullShare (iblk m c 1 t) :=
  (show (dats m 0 c).leavesExact 1 t = owns (c : Thread nD τ) (ms1 t) fullShare ((dats m 0 c).after 1 t) from by
    unfold Dat.leavesExact; rw [show cfg0.idle 1 (grid0.coords t) = false from rfl]).trans (by rw [after1])
theorem leaves2 (c : Dev nD) (t : Fin cfg0.N) : (dats m 0 c).leavesExact 2 t = owns (c : Thread nD τ) (ms2 t) fullShare (iblk m c 2 t) :=
  (show (dats m 0 c).leavesExact 2 t = owns (c : Thread nD τ) (ms2 t) fullShare ((dats m 0 c).after 2 t) from by
    unfold Dat.leavesExact; rw [show cfg0.idle 2 (grid0.coords t) = false from rfl]).trans (by rw [after2])
theorem leaves3 (c : Dev nD) (t : Fin cfg0.N) : (dats m 0 c).leavesExact 3 t = owns (c : Thread nD τ) (ms3 t) fullShare (iblk m c 3 t) :=
  (show (dats m 0 c).leavesExact 3 t = owns (c : Thread nD τ) (ms3 t) fullShare ((dats m 0 c).after 3 t) from by
    unfold Dat.leavesExact; rw [show cfg0.idle 3 (grid0.coords t) = false from rfl]).trans (by rw [after3])

set_option maxHeartbeats 4800000 in
/-- The body at any point meets its obligation: one of its three cases runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  have hN : t.val < 25 := lt_of_lt_of_eq t.isLt (show cfg0.N = 25 from N_0)
  by_cases hz : t.val = 0
  · have hc0 : clears (grid0.coords t) := (clears_iff t).mpr (by omega)
    have hc1 : ¬stores (grid0.coords t) := fun h => by have := (stores_iff t).mp h; omega
    rw [Dat.leavesExact_idle (dats m 0 c) 4 t (idle4 t hc1) (noFlush4 t hc1)]
    rw [PhiS_zero m c _ _ hz, PhiA_eq]
    iintro ⟨⟨⟨%d, HS⟩, Hg⟩, Ho, ⟨%d0, H0⟩, ⟨%d1, H1⟩, ⟨%d2, H2⟩, ⟨%d3, H3⟩, ⟨%d4, H4⟩⟩

    iapply (run_first c (grid0.coords t) _ (hs0 t) _ (hs1 t) _ (hs2 t) _ (hs3 t) _ (hs4 t) scM (Memref.isWhole_whole _) hc0 hc1 (iblk m c 0 t) (iblk m c 1 t) (iblk m c 2 t) (iblk m c 3 t) _ d Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists d; rw [acc_first m c d t hz]; iexact HS
      iexact Hg
    isplitl [Ho]; · iexact Ho
    isplitl [H0]; · iexact H0
    isplitl [H1]; · iexact H1
    isplitl [H2]; · iexact H2
    isplitl [H3]; · iexact H3
    iexists _; iexact H4
  · have hc0 : ¬clears (grid0.coords t) := fun h => by have := (clears_iff t).mp h; omega
    rw [PhiS_pos m c _ _ hz]
    by_cases hl : t.val = 24
    · have hc1 : stores (grid0.coords t) := (stores_iff t).mpr (by omega)
      rw [show (dats m 0 c).leavesExact 4 t = owns (c : Thread nD τ) (ms4 t) fullShare ((dats m 0 c).after 4 t) from by
        unfold Dat.leavesExact; rw [live4 t hc1], after4]
      iintro ⟨⟨⟨%d, HS⟩, Hg⟩, Ho, ⟨%d0, H0⟩, ⟨%d1, H1⟩, ⟨%d2, H2⟩, ⟨%d3, H3⟩, ⟨%d4, H4⟩⟩

      iapply (run_last c (grid0.coords t) _ (hs0 t) _ (hs1 t) _ (hs2 t) _ (hs3 t) _ (hs4 t) scM (Memref.isWhole_whole _) hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists d; rw [acc_later m c d t hz]; iexact HS
        iexact Hg
      isplitl [Ho]; · iexact Ho
      isplitl [H0]; · iexact H0
      isplitl [H1]; · iexact H1
      isplitl [H2]; · iexact H2
      isplitl [H3]; · iexact H3
      rw [← answer_indep m c d, acc_later m c d t hz]; iexact H4
    · have hc1 : ¬stores (grid0.coords t) := fun h => by have := (stores_iff t).mp h; omega
      rw [Dat.leavesExact_idle (dats m 0 c) 4 t (idle4 t hc1) (noFlush4 t hc1)]
      iintro ⟨⟨⟨%d, HS⟩, Hg⟩, Ho, ⟨%d0, H0⟩, ⟨%d1, H1⟩, ⟨%d2, H2⟩, ⟨%d3, H3⟩, ⟨%d4, H4⟩⟩

      iapply (run_mid c (grid0.coords t) _ (hs0 t) _ (hs1 t) _ (hs2 t) _ (hs3 t) _ (hs4 t) scM (Memref.isWhole_whole _) hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists d; rw [acc_later m c d t hz]; iexact HS
        iexact Hg
      isplitl [Ho]; · iexact Ho
      isplitl [H0]; · iexact H0
      isplitl [H1]; · iexact H1
      isplitl [H2]; · iexact H2
      isplitl [H3]; · iexact H3
      iexists _; iexact H4

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA_eq]
  iintro ⟨⟨%d, HS⟩, Hg⟩
  isplitl [HS]
  · iexists _; iexact HS
  iexact Hg

/-! ## The run and the frame -/

set_option backward.isDefEq.respectTransparency.types false in
set_option maxHeartbeats 800000 in
/-- Every execution ends with the pipeline's arrays at what the proof data say and every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Hand

end
-- ==== Proof.FrameR.lean ====
module

public import proofs.«01_k».proof.Proof.Gen.ReferenceIdeal.Run
public import Idealize.ShloMosaic.Lib.Claim

@[expose] public section

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The reference leaves its arguments unchanged and every counter at zero: it runs on the host and declares no semaphore. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Value.run m ρ)

end Cert.ReferenceIdeal.Hand

end
-- ==== Proof.PreFacts.lean ====
module

public import proofs.«01_k».proof.Pre_regular_scene

@[expose] public section

namespace Cert.Pre_regular_scene.Hand

open Idealize.ShloMosaic

/-- The shape relations the predicate's operations take. -/
theorem facts : Cert.Pre_regular_scene.Facts where
  bcast_S_S4950000 := by decide
  slices_S2x4950000_S1x4950000_0_0 := by decide
  shapeCasts_S1x4950000_S4950000 := by decide
  slices_S2x4950000_S1x4950000_1_0 := by decide
  bcast_S_S50000 := by decide
  slices_S4950000x4_S4950000x1_0_0 := by decide
  shapeCasts_S4950000x1_S4950000 := by decide
  slices_S500x2_S500x1_0_0 := by decide
  shapeCasts_S500x1_S500 := by decide
  slices_S500x2_S500x1_0_1 := by decide
  bcast_S_S500 := by decide
  bcast_S500_S500x1_0 := by decide
  concatenates_S500x1_S500x1_S500x1_S500x3_d1 := by decide
  bcast_S3_S500x3_1 := by decide
  reducesTo_S500x3_S500_d1 := by decide
  h_S_ := by decide
  bcast_S_S500x1 := by decide
  bcast_S500x1_S500x3_0_1 := by decide
  slices_S500x3_S500x1_0_1 := by decide
  slices_S500x3_S500x1_0_2 := by decide
  slices_S500x3_S500x1_0_0 := by decide
  bcast_S500x3_S500x1x3_0_2 := by decide
  concatenates_S500x1x3_S500x1x3_S500x1x3_S500x3x3_d1 := by decide
  transposes_S500x3x3_S500x3x3_0_2_1 := by decide
  bcast_S50000x3_S50000x3x1_0_1 := by decide
  bcast_S50000_S50000x1_0 := by decide
  slices_S50000x3x3_S50000x3x2_0_0_0 := by decide
  bcast_S50000x3x1_S50000x3x2_0_1_2 := by decide
  reducesTo_S50000x3x2_S50000x2_d1 := by decide
  bcast_S4950000_S4950000x1_0 := by decide
  bcast_S_S500x2 := by decide
  bcast_S_S50000x3 := by decide
  reducesTo_S4950000x2_S_d0_1 := by decide
  gather_S500x3x3_S50000x1_S50000x3x3_12_0_n_n_0_1_133_wf := by decide
  gather_S50000x2_S4950000x1_S4950000x2_1_0_n_n_0_1_12_wf := by decide

end Cert.Pre_regular_scene.Hand

end
-- ==== Proof.Scene.lean ====
module

public import Idealize.ShloMosaic.Lib.Pointwise
public import Idealize.ShloMosaic.Lib.IdealHost

@[expose] public section

set_option maxRecDepth 16384

noncomputable section

namespace Cert.Stress

open Idealize.ShloMosaic

/-! ## Operations on reals among the extended reals -/

/-- A sum of two reals. -/
theorem radd (x y : ℝ) : (x : EReal) + (y : EReal) = ((x + y : ℝ) : EReal) := (EReal.coe_add x y).symm
/-- A difference of two reals. -/
theorem rsub (x y : ℝ) : (x : EReal) - (y : EReal) = ((x - y : ℝ) : EReal) := (EReal.coe_sub x y).symm
/-- A product of two reals. -/
theorem rmul (x y : ℝ) : (x : EReal) * (y : EReal) = ((x * y : ℝ) : EReal) := (EReal.coe_mul x y).symm
/-- A real negated. -/
theorem rneg (x : ℝ) : -(x : EReal) = ((-x : ℝ) : EReal) := (EReal.coe_neg x).symm
/-- The greater of two reals. -/
theorem rmax (x y : ℝ) : max (x : EReal) (y : EReal) = ((max x y : ℝ) : EReal) :=
  ((EReal.coe_strictMono.monotone).map_max (a := x) (b := y)).symm
/-- A quotient of two reals, the divisor not zero. -/
theorem rdiv (x : ℝ) {y : ℝ} (h : y ≠ 0) : Ideal.div (x : EReal) (y : EReal) = ((x / y : ℝ) : EReal) := by
  rw [Ideal.div_coe h, rmul, mul_one_div]
/-- The root of a real that is not negative. -/
theorem rsqrt {x : ℝ} (h : 0 ≤ x) : Ideal.sqrt (x : EReal) = ((Real.sqrt x : ℝ) : EReal) := by
  rw [Ideal.sqrt_coe, if_neg (not_lt.mpr h)]
/-- A finite sum of reals. -/
theorem rsum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, radd]
/-- Zero is the real zero. -/
theorem rzero : (0 : EReal) = ((0 : ℝ) : EReal) := rfl
/-- One is the real one. -/
theorem rone : (1 : EReal) = ((1 : ℝ) : EReal) := rfl

/-! ## The programs' literals -/

/-- Degrees to radians, as the programs round it. -/
def deg : ℝ := 9370165 / 2 ^ 29
/-- The least norm a vector is divided by. -/
def eps : ℝ := 10995116 / 2 ^ 40
/-- The number the kernel puts on the diagonal of the distances. -/
def big : ℝ := 13234890 * 2 ^ 76

theorem eps_pos : 0 < eps := by unfold eps; norm_num
theorem big_ne : big ≠ 0 := by unfold big; norm_num

theorem lit_deg : Ideal.ofBits .f32 0x3C8EFA35#32 = ((deg : ℝ) : EReal) := by
  simp [Ideal.ofBits, Ideal.ieee, -EReal.coe_mul, deg]; norm_num
theorem lit_eps : Ideal.ofBits .f32 0x3727C5AC#32 = ((eps : ℝ) : EReal) := by
  simp [Ideal.ofBits, Ideal.ieee, -EReal.coe_mul, eps]; norm_num
theorem lit_big : Ideal.ofBits .f32 0x7149F2CA#32 = ((big : ℝ) : EReal) := by
  simp [Ideal.ofBits, Ideal.ieee, -EReal.coe_mul, big]
theorem lit_two : Ideal.ofBits .f32 0x40000000#32 = ((2 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul]; norm_num
theorem lit_500 : Ideal.ofBits .f32 0x43FA0000#32 = ((500 : ℝ) : EReal) := by
  simp [Ideal.ofBits, Ideal.ieee, -EReal.coe_mul]; norm_num
theorem lit_1000 : Ideal.ofBits .f32 0x447A0000#32 = ((1000 : ℝ) : EReal) := by
  simp [Ideal.ofBits, Ideal.ieee, -EReal.coe_mul]; norm_num
theorem lit_one : Ideal.ofBits .f32 0x3F800000#32 = ((1 : ℝ) : EReal) := by rw [Ideal.ofBits_one_f32, rone]
theorem lit_zero : Ideal.ofBits .f32 0x00000000#32 = ((0 : ℝ) : EReal) := by rw [Ideal.ofBits_zero_f32, rzero]
theorem lit_top : Ideal.ofBits .f32 0x7F800000#32 = ⊤ := by simp [Ideal.ofBits, Ideal.ieee]
theorem lit_bot : Ideal.ofBits .f32 0xFF800000#32 = ⊥ := by simp [Ideal.ofBits, Ideal.ieee]

/-! ## The camera -/

/-- A norm kept from falling below `eps`. -/
def nrm (x : ℝ) : ℝ := max (Real.sqrt x) eps
theorem nrm_pos (x : ℝ) : 0 < nrm x := lt_max_of_lt_right eps_pos
theorem nrm_ne (x : ℝ) : nrm x ≠ 0 := (nrm_pos x).ne'

/-- The root of a sum of three squares. -/
theorem rsqrt3 (x y z : ℝ) : Ideal.sqrt ((x * x + y * y + z * z : ℝ) : EReal) = ((Real.sqrt (x * x + y * y + z * z) : ℝ) : EReal) :=
  rsqrt (add_nonneg (add_nonneg (mul_self_nonneg _) (mul_self_nonneg _)) (mul_self_nonneg _))
/-- The root of a sum of two squares. -/
theorem rsqrt2 (x y : ℝ) : Ideal.sqrt ((x * x + y * y : ℝ) : EReal) = ((Real.sqrt (x * x + y * y) : ℝ) : EReal) :=
  rsqrt (add_nonneg (mul_self_nonneg _) (mul_self_nonneg _))
/-- A quotient by a norm kept from falling below `eps`. -/
theorem rdiv_max (x y : ℝ) : Ideal.div (x : EReal) ((max y eps : ℝ) : EReal) = ((x / max y eps : ℝ) : EReal) :=
  rdiv x (lt_max_of_lt_right eps_pos).ne'

/-- The camera's place for elevation `a` and azimuth `b` in degrees. -/
def cX (a b : ℝ) : ℝ := Real.cos (a * deg) * Real.sin (b * deg)
def cY (a : ℝ) : ℝ := Real.sin (a * deg)
def cZ (a b : ℝ) : ℝ := Real.cos (a * deg) * Real.cos (b * deg)
/-- The norm its direction is divided by. -/
def nC (a b : ℝ) : ℝ := nrm (cX a b * cX a b + cY a * cY a + cZ a b * cZ a b)
/-- The viewing axis. -/
def zX (a b : ℝ) : ℝ := -cX a b / nC a b
def zY (a b : ℝ) : ℝ := -cY a / nC a b
def zZ (a b : ℝ) : ℝ := -cZ a b / nC a b
/-- The norm of the upright crossed with the viewing axis. -/
def nX (a b : ℝ) : ℝ := nrm (zZ a b * zZ a b + zX a b * zX a b)
theorem nC_ne (a b : ℝ) : nC a b ≠ 0 := nrm_ne _
theorem nX_ne (a b : ℝ) : nX a b ≠ 0 := nrm_ne _
/-- The screen's first axis, whose middle coordinate is zero. -/
def xX (a b : ℝ) : ℝ := zZ a b / nX a b
def xZ (a b : ℝ) : ℝ := -zX a b / nX a b
/-- The viewing axis crossed with the screen's first axis. -/
def wX (a b : ℝ) : ℝ := zY a b * xZ a b
def wY (a b : ℝ) : ℝ := zZ a b * xX a b - zX a b * xZ a b
def wZ (a b : ℝ) : ℝ := -zY a b * xX a b
/-- Its norm. -/
def nY (a b : ℝ) : ℝ := nrm (wX a b * wX a b + wY a b * wY a b + wZ a b * wZ a b)
theorem nY_ne (a b : ℝ) : nY a b ≠ 0 := nrm_ne _
/-- The screen's second axis. -/
def yX (a b : ℝ) : ℝ := wX a b / nY a b
def yY (a b : ℝ) : ℝ := wY a b / nY a b
def yZ (a b : ℝ) : ℝ := wZ a b / nY a b
/-- The screen's shift. -/
def t0 (a b : ℝ) : ℝ := -(xX a b * cX a b + xZ a b * cZ a b)
def t1 (a b : ℝ) : ℝ := -(yX a b * cX a b + yY a b * cY a + yZ a b * cZ a b)
/-- The screen coordinates of the point `(p, q, r)`. -/
def scrX (a b p r : ℝ) : ℝ := p * xX a b + r * xZ a b + t0 a b
def scrY (a b p q r : ℝ) : ℝ := p * yX a b + q * yY a b + r * yZ a b + t1 a b

/-- The length on the screen between two points. -/
def gap (x y x' y' : ℝ) : ℝ := Real.sqrt ((x - x') * (x - x') + (y - y') * (y - y'))
theorem gap_nonneg (x y x' y' : ℝ) : 0 ≤ gap x y x' y' := Real.sqrt_nonneg _

/-! ## The sums over one graph's edges

The edge `(i, k)` of a graph leads from node `i` to the `k`-th of the others, `i.succAbove k`. -/

/-- The quotient of an edge's length on the screen and its wanted length. -/
def quo (X Y : Fin 100 → ℝ) (d : Fin 100 → Fin 99 → ℝ) (i : Fin 100) (k : Fin 99) : ℝ :=
  gap (X i) (Y i) (X (i.succAbove k)) (Y (i.succAbove k)) / d i k
/-- The sum of the quotients' squares. -/
def sqs (X Y : Fin 100 → ℝ) (d : Fin 100 → Fin 99 → ℝ) : ℝ := ∑ i, ∑ k, quo X Y d i k * quo X Y d i k
/-- The sum of the quotients. -/
def quos (X Y : Fin 100 → ℝ) (d : Fin 100 → Fin 99 → ℝ) : ℝ := ∑ i, ∑ k, quo X Y d i k

/-- A sum over all pairs of nodes whose terms vanish at equal nodes is the sum over the edges. -/
theorem sum_pairs (f : Fin 100 → Fin 100 → ℝ) (h : ∀ i, f i i = 0) : ∑ i, ∑ j, f i j = ∑ i, ∑ k : Fin 99, f i (i.succAbove k) :=
  Finset.sum_congr rfl fun i _ => by rw [Fin.sum_univ_succAbove _ i, h, zero_add]

end Cert.Stress

end
-- ==== Proof.Places.lean ====
module

public import proofs.«01_k».proof.Proof.Scene

@[expose] public section

noncomputable section

namespace Cert.Stress

/-! ## Where the parts of a graph stand in the flat arrays -/

/-- Graph `g` of block `t`. -/
def graphAt (t : Fin 25) (g : Fin 20) : Fin 500 := ⟨t.val * 20 + g.val, by omega⟩
/-- Node `i` of graph `g`. -/
def nodeAt (g : Fin 500) (i : Fin 100) : Fin 50000 := ⟨g.val * 100 + i.val, by omega⟩
/-- The `k`-th edge from node `i` of graph `g`. -/
def edgeAt (g : Fin 500) (i : Fin 100) (k : Fin 99) : Fin 4950000 := ⟨g.val * 9900 + i.val * 99 + k.val, by omega⟩

/-- A sum over the graphs, block by block. -/
theorem sum_graphs {M : Type} [AddCommMonoid M] (f : Fin 500 → M) : ∑ t : Fin 25, ∑ g : Fin 20, f (graphAt t g) = ∑ g, f g := by
  rw [← Fintype.sum_prod_type', ← Equiv.sum_comp (finProdFinEquiv (m := 25) (n := 20)) f]
  refine Finset.sum_congr rfl fun x _ => congrArg f (Fin.ext ?_)
  show x.1.val * 20 + x.2.val = x.2.val + 20 * x.1.val
  omega
/-- A sum over the edges, graph by graph and node by node. -/
theorem sum_edges {M : Type} [AddCommMonoid M] (f : Fin 4950000 → M) : ∑ g : Fin 500, ∑ i : Fin 100, ∑ k : Fin 99, f (edgeAt g i k) = ∑ e, f e := by
  rw [← Equiv.sum_comp (finProdFinEquiv (m := 500) (n := 9900)) f, Fintype.sum_prod_type]
  refine Finset.sum_congr rfl fun g _ => ?_
  rw [← Equiv.sum_comp (finProdFinEquiv (m := 100) (n := 99)), Fintype.sum_prod_type]
  refine Finset.sum_congr rfl fun i _ => Finset.sum_congr rfl fun k _ => congrArg f (Fin.ext ?_)
  show g.val * 9900 + i.val * 99 + k.val = (k.val + 99 * i.val) + 9900 * g.val
  omega
theorem edge_cases (e : Fin 4950000) : ∃ g i k, e = edgeAt g i k :=
  ⟨⟨e.val / 9900, by omega⟩, ⟨e.val / 99 % 100, by omega⟩, ⟨e.val % 99, by omega⟩, Fin.ext (by
    show e.val = e.val / 9900 * 9900 + e.val / 99 % 100 * 99 + e.val % 99
    omega)⟩
theorem node_cases (n : Fin 50000) : ∃ g i, n = nodeAt g i :=
  ⟨⟨n.val / 100, by omega⟩, ⟨n.val % 100, by omega⟩, Fin.ext (by show n.val = n.val / 100 * 100 + n.val % 100; omega)⟩

/-! ## The scene in reals -/

section
variable (ang : Fin 500 → Fin 2 → ℝ) (pos : Fin 50000 → Fin 3 → ℝ) (d : Fin 4950000 → ℝ)
/-- The screen coordinates of node `i` of graph `g`. -/
def sX (g : Fin 500) (i : Fin 100) : ℝ := scrX (ang g 0) (ang g 1) (pos (nodeAt g i) 0) (pos (nodeAt g i) 2)
def sY (g : Fin 500) (i : Fin 100) : ℝ := scrY (ang g 0) (ang g 1) (pos (nodeAt g i) 0) (pos (nodeAt g i) 1) (pos (nodeAt g i) 2)
/-- The wanted length of an edge. -/
def sD (g : Fin 500) (i : Fin 100) (k : Fin 99) : ℝ := d (edgeAt g i k)
/-- Graph `g`'s sums of the quotients and of their squares. -/
def gSq (g : Fin 500) : ℝ := sqs (sX ang pos g) (sY ang pos g) (sD d g)
def gQuo (g : Fin 500) : ℝ := quos (sX ang pos g) (sY ang pos g) (sD d g)
/-- All graphs' sums. -/
def allSq : ℝ := ∑ g, gSq ang pos d g
def allQuo : ℝ := ∑ g, gQuo ang pos d g
end

/-- The weight of an edge in the result: a thousand over the edges of a graph and the number of graphs. -/
def wt : ℝ := 1000 / (9900 * 500)
/-- The result in terms of the two sums. -/
def stress (A B : ℝ) : ℝ := (B / A) * (B / A) * (wt * A) - 2 * (B / A) * (wt * B) + 500 * (wt * 9900)

end Cert.Stress

end
-- ==== Proof.RefCam.lean ====
module

public import proofs.«01_k».proof.Proof.Places
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Cert.Stress
open Idealize.ShloMosaic Idealize.ShloMosaic.TcCoe Idealize.SL.Sem

variable (V0 : Valuation τ sig (Elt Ideal)) (ang : Fin 500 → Fin 2 → ℝ)
  (h0 : ∀ g k, (V0 (Proc.devRef .tc main_arg0) : Vec Ideal S500x2 .f32) (ix2 g k) = ((ang g k : ℝ) : EReal)) (g : Fin 500)

/-! The camera's axes as the reference computes them, a coordinate each. -/

theorem up0 : (Value.res_main_v19 V0 : FVec Ideal S500x3 .f32) (ix2 g 0) = ((0 : ℝ) : EReal) := by
  pointwise [Value.res_main_v19]
  exact lit_zero
theorem up1 : (Value.res_main_v19 V0 : FVec Ideal S500x3 .f32) (ix2 g 1) = ((1 : ℝ) : EReal) := by
  pointwise [Value.res_main_v19]
  exact lit_one
theorem up2 : (Value.res_main_v19 V0 : FVec Ideal S500x3 .f32) (ix2 g 2) = ((0 : ℝ) : EReal) := by
  pointwise [Value.res_main_v19]
  exact lit_zero

include h0
theorem v5_at : (Value.res_main_v5 V0 : FVec Ideal S500 .f32) (ix1 g) = ((ang g 0 * deg : ℝ) : EReal) := by
  pointwise [Value.res_main_v5]
  rw [h0, lit_deg, rmul]
theorem v7_at : (Value.res_main_v7 V0 : FVec Ideal S500 .f32) (ix1 g) = ((ang g 1 * deg : ℝ) : EReal) := by
  pointwise [Value.res_main_v7]
  rw [h0, lit_deg, rmul]
/-- The camera's place. -/
theorem rC0 : (Value.res_main_v18 V0 : FVec Ideal S500x3 .f32) (ix2 g 0) = ((cX (ang g 0) (ang g 1) : ℝ) : EReal) := by
  pointwise [Value.res_main_v18]
  rw [v5_at V0 ang h0, v7_at V0 ang h0]; rfl
theorem rC1 : (Value.res_main_v18 V0 : FVec Ideal S500x3 .f32) (ix2 g 1) = ((cY (ang g 0) : ℝ) : EReal) := by
  pointwise [Value.res_main_v18]
  rw [v5_at V0 ang h0]; rfl
theorem rC2 : (Value.res_main_v18 V0 : FVec Ideal S500x3 .f32) (ix2 g 2) = ((cZ (ang g 0) (ang g 1) : ℝ) : EReal) := by
  pointwise [Value.res_main_v18]
  rw [v5_at V0 ang h0, v7_at V0 ang h0]; rfl
theorem rN0 : (Value.res_main_v20 V0 : FVec Ideal S500x3 .f32) (ix2 g 0) = ((-cX (ang g 0) (ang g 1) : ℝ) : EReal) := by
  pointwise [Value.res_main_v20]
  rw [rC0 V0 ang h0, rneg]
theorem rN1 : (Value.res_main_v20 V0 : FVec Ideal S500x3 .f32) (ix2 g 1) = ((-cY (ang g 0) : ℝ) : EReal) := by
  pointwise [Value.res_main_v20]
  rw [rC1 V0 ang h0, rneg]
theorem rN2 : (Value.res_main_v20 V0 : FVec Ideal S500x3 .f32) (ix2 g 2) = ((-cZ (ang g 0) (ang g 1) : ℝ) : EReal) := by
  pointwise [Value.res_main_v20]
  rw [rC2 V0 ang h0, rneg]
/-- The viewing axis. -/
theorem rZ0 : (Value.res_main_v25 V0 : FVec Ideal S500x3 .f32) (ix2 g 0) = ((zX (ang g 0) (ang g 1) : ℝ) : EReal) := by
  pointwise [Value.res_main_v25]
  rw [Fin.sum_univ_three, rN0 V0 ang h0, rN1 V0 ang h0, rN2 V0 ang h0, lit_eps, rmul, rmul, rmul, radd, radd, rsqrt3, rmax, rdiv_max]
  simp only [neg_mul_neg]; rfl
theorem rZ1 : (Value.res_main_v25 V0 : FVec Ideal S500x3 .f32) (ix2 g 1) = ((zY (ang g 0) (ang g 1) : ℝ) : EReal) := by
  pointwise [Value.res_main_v25]
  rw [Fin.sum_univ_three, rN0 V0 ang h0, rN1 V0 ang h0, rN2 V0 ang h0, lit_eps, rmul, rmul, rmul, radd, radd, rsqrt3, rmax, rdiv_max]
  simp only [neg_mul_neg]; rfl
theorem rZ2 : (Value.res_main_v25 V0 : FVec Ideal S500x3 .f32) (ix2 g 2) = ((zZ (ang g 0) (ang g 1) : ℝ) : EReal) := by
  pointwise [Value.res_main_v25]
  rw [Fin.sum_univ_three, rN0 V0 ang h0, rN1 V0 ang h0, rN2 V0 ang h0, lit_eps, rmul, rmul, rmul, radd, radd, rsqrt3, rmax, rdiv_max]
  simp only [neg_mul_neg]; rfl
/-- The upright crossed with it. -/
theorem rU0 : (Value.res_main_v62 V0 : FVec Ideal S500x3 .f32) (ix2 g 0) = ((zZ (ang g 0) (ang g 1) : ℝ) : EReal) := by
  pointwise [Value.res_main_v62]
  rw [up1 V0, up2 V0, rZ1 V0 ang h0, rZ2 V0 ang h0]
  simp only [rmul, rsub, one_mul, zero_mul, sub_zero, zero_sub]
theorem rU1 : (Value.res_main_v62 V0 : FVec Ideal S500x3 .f32) (ix2 g 1) = ((0 : ℝ) : EReal) := by
  pointwise [Value.res_main_v62]
  rw [up2 V0, up0 V0, rZ2 V0 ang h0, rZ0 V0 ang h0]
  simp only [rmul, rsub, one_mul, zero_mul, sub_zero, zero_sub]
theorem rU2 : (Value.res_main_v62 V0 : FVec Ideal S500x3 .f32) (ix2 g 2) = ((-zX (ang g 0) (ang g 1) : ℝ) : EReal) := by
  pointwise [Value.res_main_v62]
  rw [up0 V0, up1 V0, rZ0 V0 ang h0, rZ1 V0 ang h0]
  simp only [rmul, rsub, one_mul, zero_mul, sub_zero, zero_sub]
/-- The screen's first axis. -/
theorem rX0 : (Value.res_main_v67 V0 : FVec Ideal S500x3 .f32) (ix2 g 0) = ((xX (ang g 0) (ang g 1) : ℝ) : EReal) := by
  pointwise [Value.res_main_v67]
  rw [Fin.sum_univ_three, rU0 V0 ang h0, rU1 V0 ang h0, rU2 V0 ang h0, lit_eps, rmul, rmul, rmul, radd, radd, rsqrt3, rmax, rdiv_max]
  simp only [neg_mul_neg, mul_zero, add_zero, zero_div]; rfl
theorem rX1 : (Value.res_main_v67 V0 : FVec Ideal S500x3 .f32) (ix2 g 1) = ((0 : ℝ) : EReal) := by
  pointwise [Value.res_main_v67]
  rw [Fin.sum_univ_three, rU0 V0 ang h0, rU1 V0 ang h0, rU2 V0 ang h0, lit_eps, rmul, rmul, rmul, radd, radd, rsqrt3, rmax, rdiv_max]
  simp only [neg_mul_neg, mul_zero, add_zero, zero_div]
theorem rX2 : (Value.res_main_v67 V0 : FVec Ideal S500x3 .f32) (ix2 g 2) = ((xZ (ang g 0) (ang g 1) : ℝ) : EReal) := by
  pointwise [Value.res_main_v67]
  rw [Fin.sum_univ_three, rU0 V0 ang h0, rU1 V0 ang h0, rU2 V0 ang h0, lit_eps, rmul, rmul, rmul, radd, radd, rsqrt3, rmax, rdiv_max]
  simp only [neg_mul_neg, mul_zero, add_zero, zero_div]; rfl
/-- The viewing axis crossed with it. -/
theorem rW0 : (Value.res_main_v104 V0 : FVec Ideal S500x3 .f32) (ix2 g 0) = ((wX (ang g 0) (ang g 1) : ℝ) : EReal) := by
  pointwise [Value.res_main_v104]
  rw [rX1 V0 ang h0, rX2 V0 ang h0, rZ1 V0 ang h0, rZ2 V0 ang h0]
  simp only [rmul, rsub]
  refine congrArg _ ?_
  unfold wX; ring
theorem rW1 : (Value.res_main_v104 V0 : FVec Ideal S500x3 .f32) (ix2 g 1) = ((wY (ang g 0) (ang g 1) : ℝ) : EReal) := by
  pointwise [Value.res_main_v104]
  rw [rX2 V0 ang h0, rX0 V0 ang h0, rZ2 V0 ang h0, rZ0 V0 ang h0]
  simp only [rmul, rsub]
  refine congrArg _ ?_
  unfold wY; ring
theorem rW2 : (Value.res_main_v104 V0 : FVec Ideal S500x3 .f32) (ix2 g 2) = ((wZ (ang g 0) (ang g 1) : ℝ) : EReal) := by
  pointwise [Value.res_main_v104]
  rw [rX0 V0 ang h0, rX1 V0 ang h0, rZ0 V0 ang h0, rZ1 V0 ang h0]
  simp only [rmul, rsub]
  refine congrArg _ ?_
  unfold wZ; ring
/-- The three axes as the columns of a matrix. -/
theorem rR00 : (Value.res_main_v114 V0 : FVec Ideal S500x3x3 .f32) (ix3 g 0 0) = ((xX (ang g 0) (ang g 1) : ℝ) : EReal) := by
  pointwise [Value.res_main_v114]
  exact rX0 V0 ang h0 g
theorem rR10 : (Value.res_main_v114 V0 : FVec Ideal S500x3x3 .f32) (ix3 g 1 0) = ((0 : ℝ) : EReal) := by
  pointwise [Value.res_main_v114]
  exact rX1 V0 ang h0 g
theorem rR20 : (Value.res_main_v114 V0 : FVec Ideal S500x3x3 .f32) (ix3 g 2 0) = ((xZ (ang g 0) (ang g 1) : ℝ) : EReal) := by
  pointwise [Value.res_main_v114]
  exact rX2 V0 ang h0 g
theorem rR01 : (Value.res_main_v114 V0 : FVec Ideal S500x3x3 .f32) (ix3 g 0 1) = ((yX (ang g 0) (ang g 1) : ℝ) : EReal) := by
  pointwise [Value.res_main_v114]
  rw [Fin.sum_univ_three, rW0 V0 ang h0, rW1 V0 ang h0, rW2 V0 ang h0, lit_eps, rmul, rmul, rmul, radd, radd, rsqrt3, rmax, rdiv_max]; rfl
theorem rR11 : (Value.res_main_v114 V0 : FVec Ideal S500x3x3 .f32) (ix3 g 1 1) = ((yY (ang g 0) (ang g 1) : ℝ) : EReal) := by
  pointwise [Value.res_main_v114]
  rw [Fin.sum_univ_three, rW0 V0 ang h0, rW1 V0 ang h0, rW2 V0 ang h0, lit_eps, rmul, rmul, rmul, radd, radd, rsqrt3, rmax, rdiv_max]; rfl
theorem rR21 : (Value.res_main_v114 V0 : FVec Ideal S500x3x3 .f32) (ix3 g 2 1) = ((yZ (ang g 0) (ang g 1) : ℝ) : EReal) := by
  pointwise [Value.res_main_v114]
  rw [Fin.sum_univ_three, rW0 V0 ang h0, rW1 V0 ang h0, rW2 V0 ang h0, lit_eps, rmul, rmul, rmul, radd, radd, rsqrt3, rmax, rdiv_max]; rfl
theorem rR02 : (Value.res_main_v114 V0 : FVec Ideal S500x3x3 .f32) (ix3 g 0 2) = ((zX (ang g 0) (ang g 1) : ℝ) : EReal) := by
  pointwise [Value.res_main_v114]
  exact rZ0 V0 ang h0 g
theorem rR12 : (Value.res_main_v114 V0 : FVec Ideal S500x3x3 .f32) (ix3 g 1 2) = ((zY (ang g 0) (ang g 1) : ℝ) : EReal) := by
  pointwise [Value.res_main_v114]
  exact rZ1 V0 ang h0 g
theorem rR22 : (Value.res_main_v114 V0 : FVec Ideal S500x3x3 .f32) (ix3 g 2 2) = ((zZ (ang g 0) (ang g 1) : ℝ) : EReal) := by
  pointwise [Value.res_main_v114]
  exact rZ2 V0 ang h0 g

end Cert.ReferenceIdeal.Hand

end
-- ==== Proof.Rows.lean ====
module

public import proofs.«01_k».proof.Proof.Scene
public import Idealize.ShloMosaic.Lib.ValueIdxCore
public import Idealize.ShloMosaic.Lib.StableHlo.Predicate

@[expose] public section

noncomputable section

namespace Cert.Stress

open Idealize.ShloMosaic

/-! ## Whole matrices of a table taken by an index -/

section
variable {α : Type} {N A B n : Nat}
/-- The gather that takes, per index, one `A × B` matrix of a table of `N` of them. -/
def matDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where the index holds the number of a matrix, the gather's entry is that matrix's. -/
theorem gather_mat (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (i : Fin A) (k : Fin B) (b : Fin N)
    (hb : idx (ix2 c (0 : Fin 1)) = BitVec.ofNat 32 b.val) (hN : N < 2 ^ 31) :
    Host.gather (matDims N A B n wf) x idx (ix3 c i k) = x (ix3 b i k) := by
  unfold Host.gather
  congr 1
  funext a
  refine Fin.ext ?_
  show (matDims N A B n wf).start (ix3 c i k) idx a + (matDims N A B n wf).batchCoord (ix3 c i k) a
      + (matDims N A B n wf).offCoord (ix3 c i k) a = _
  rw [GatherDims.batchCoord_eq_zero _ _ _ (fun h => by simp [matDims] at h), Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (matDims N A B n wf).startIndexMap from List.mem_singleton.mpr rfl)]
    have hsi : (matDims N A B n wf).siIdx (ix3 c i k) ⟨List.idxOf (0 : Fin 3) (matDims N A B n wf).startIndexMap,
        List.idxOf_lt_length_iff.2 (List.mem_singleton.mpr rfl)⟩ = ix2 c (0 : Fin 1) := by
      funext b'; refine Fin.ext ?_
      match b' with
      | ⟨0, _⟩ => rfl
      | ⟨1, _⟩ => rfl
    have hbl := b.isLt
    rw [hsi, hb, StableHlo.Predicate.toInt_ofNat_small _ (by omega)]
    show min ((b.val : Int)).toNat (N - 1) = b.val
    omega
  · unfold GatherDims.start
    rw [dif_neg (show (1 : Fin 3) ∉ (matDims N A B n wf).startIndexMap from fun h => absurd (List.mem_singleton.mp h) (fun e => nomatch e)), Nat.zero_add]
    rfl
  · unfold GatherDims.start
    rw [dif_neg (show (2 : Fin 3) ∉ (matDims N A B n wf).startIndexMap from fun h => absurd (List.mem_singleton.mp h) (fun e => nomatch e)), Nat.zero_add]
    rfl
end

/-! ## The least and the greatest of an array of reals -/

theorem foldl_min {ι : Type} (f : ι → EReal) (hf : ∀ i, ∃ r : ℝ, f i = r) :
    ∀ (l : List ι) (z : EReal), (∃ r : ℝ, z = r) → ∃ r : ℝ, l.foldl (fun a i => min a (f i)) z = r ∧ (r : EReal) ≤ z ∧ ∀ i ∈ l, (r : EReal) ≤ f i
  | [], z, ⟨r, hr⟩ => ⟨r, hr, hr.symm.le, by simp⟩
  | a :: l, z, ⟨r, hr⟩ => by
    obtain ⟨s, hs⟩ := hf a
    obtain ⟨q, h1, h2, h3⟩ := foldl_min f hf l (min z (f a)) ⟨min r s, by rw [hr, hs]; exact (EReal.coe_strictMono.monotone.map_min).symm⟩
    refine ⟨q, h1, h2.trans (min_le_left _ _), fun i hi => ?_⟩
    rcases List.mem_cons.1 hi with rfl | hi
    exacts [h2.trans (min_le_right _ _), h3 i hi]

theorem foldl_max {ι : Type} (f : ι → EReal) (hf : ∀ i, ∃ r : ℝ, f i = r) :
    ∀ (l : List ι) (z : EReal), (∃ r : ℝ, z = r) → ∃ r : ℝ, l.foldl (fun a i => max a (f i)) z = r ∧ z ≤ (r : EReal) ∧ ∀ i ∈ l, f i ≤ (r : EReal)
  | [], z, ⟨r, hr⟩ => ⟨r, hr, hr.le, by simp⟩
  | a :: l, z, ⟨r, hr⟩ => by
    obtain ⟨s, hs⟩ := hf a
    obtain ⟨q, h1, h2, h3⟩ := foldl_max f hf l (max z (f a)) ⟨max r s, by rw [hr, hs]; exact (EReal.coe_strictMono.monotone.map_max).symm⟩
    refine ⟨q, h1, (le_max_left _ _).trans h2, fun i hi => ?_⟩
    rcases List.mem_cons.1 hi with rfl | hi
    exacts [(le_max_right _ _).trans h2, h3 i hi]

section
variable {s t u : Shape} {axes : List (Fin s.rank)}
/-- The least of reals along an axis is a real, at most each of them. -/
theorem reduce_min (x : s.Idx → EReal) (init : u.Idx → EReal) (h : s.ReducesTo axes t) (hu : 0 < u.numel) (j : t.Idx)
    (hi : init (Shape.Idx.first hu) = ⊤) (hx : ∀ i, ∃ r : ℝ, x i = r) (i0 : s.Idx) (h0 : h.drop i0 = j) :
    ∃ r : ℝ, Host.reduce (fun a b => min a b) x init h hu j = r ∧ ∀ i, h.drop i = j → (r : EReal) ≤ x i := by
  rw [Host.reduce_eq_foldl, hi]
  have mem : ∀ i, h.drop i = j → i ∈ ((List.finRange s.numel).map s.rowMajor.symm).filter fun i => h.drop i = j := fun i e =>
    List.mem_filter.2 ⟨List.mem_map.2 ⟨s.rowMajor i, List.mem_finRange _, Equiv.symm_apply_apply _ _⟩, by simp [e]⟩
  generalize ((List.finRange s.numel).map s.rowMajor.symm).filter (fun i => h.drop i = j) = l at mem
  cases l with
  | nil => exact absurd (mem i0 h0) (by simp)
  | cons a l =>
    obtain ⟨s', hs⟩ := hx a
    obtain ⟨q, h1, h2, h3⟩ := foldl_min x hx l (min ⊤ (x a)) ⟨s', by rw [hs, min_top_left]⟩
    refine ⟨q, h1, fun i e => ?_⟩
    rcases List.mem_cons.1 (mem i e) with rfl | hl
    exacts [h2.trans (min_le_right _ _), h3 i hl]
/-- The greatest of reals along an axis is a real, at least each of them. -/
theorem reduce_max (x : s.Idx → EReal) (init : u.Idx → EReal) (h : s.ReducesTo axes t) (hu : 0 < u.numel) (j : t.Idx)
    (hi : init (Shape.Idx.first hu) = ⊥) (hx : ∀ i, ∃ r : ℝ, x i = r) (i0 : s.Idx) (h0 : h.drop i0 = j) :
    ∃ r : ℝ, Host.reduce (fun a b => max a b) x init h hu j = r ∧ ∀ i, h.drop i = j → x i ≤ (r : EReal) := by
  rw [Host.reduce_eq_foldl, hi]
  have mem : ∀ i, h.drop i = j → i ∈ ((List.finRange s.numel).map s.rowMajor.symm).filter fun i => h.drop i = j := fun i e =>
    List.mem_filter.2 ⟨List.mem_map.2 ⟨s.rowMajor i, List.mem_finRange _, Equiv.symm_apply_apply _ _⟩, by simp [e]⟩
  generalize ((List.finRange s.numel).map s.rowMajor.symm).filter (fun i => h.drop i = j) = l at mem
  cases l with
  | nil => exact absurd (mem i0 h0) (by simp)
  | cons a l =>
    obtain ⟨s', hs⟩ := hx a
    obtain ⟨q, h1, h2, h3⟩ := foldl_max x hx l (max ⊥ (x a)) ⟨s', by rw [hs, max_bot_left]⟩
    refine ⟨q, h1, fun i e => ?_⟩
    rcases List.mem_cons.1 (mem i e) with rfl | hl
    exacts [(le_max_right _ _).trans h2, h3 i hl]
end

end Cert.Stress

end
-- ==== Proof.RefView.lean ====
module

public import proofs.«01_k».proof.Proof.RefCam
public import proofs.«01_k».proof.Proof.Rows
public import Idealize.ShloMosaic.Lib.Routing.OpsPair

@[expose] public section

set_option maxRecDepth 16384

noncomputable section

namespace Cert.ReferenceIdeal.Hand

open Cert.ReferenceIdeal Cert.ReferenceIdeal.Gen Cert.Stress
open Idealize.ShloMosaic Idealize.ShloMosaic.TcCoe Idealize.SL.Sem

/-- The four-by-four matrix that swaps the last two coordinates. -/
def swp : FVec Ideal S4x4 .f32 := fun i => FloatOps.ofBits .f32 (lit1 (S4x4.rowMajor i))

/-- The four rows of the view: three of the axes with a zero, one of the shift with a one. -/
def rows4 (R : FVec Ideal S500x3x3 .f32) (C : FVec Ideal S500x3 .f32) : FVec Ideal S500x4x4 .f32 :=
  concatenate S500x4x4 1 [⟨S500x3x4, (concatenate S500x3x4 2 [⟨S500x3x3, R⟩, ⟨S500x3x1, (broadcastInDim S500x3x1 ![] bcast_S_S500x3x1 (constant S_ .f32 0x00000000#32))⟩] concatenates_S500x3x3_S500x3x1_S500x3x4_d2)⟩, ⟨S500x1x4, (concatenate S500x1x4 2 [⟨S500x1x3, (broadcastInDim S500x1x3 ![0, 2] bcast_S500x3_S500x1x3_0_2 (Host.negf (Host.dotGeneral dot_S500x3x3_S500x3_S500x3_2_1_1_n_0_0 none (transpose S500x3x3 [0, 2, 1] R transposes_S500x3x3_S500x3x3_0_2_1) C)))⟩, ⟨S500x1x1, (broadcastInDim S500x1x1 ![] bcast_S_S500x1x1 (constant S_ .f32 0x3F800000#32))⟩] concatenates_S500x1x3_S500x1x1_S500x1x4_d2)⟩] concatenates_S500x3x4_S500x1x4_S500x4x4_d1

/-- The batch of views: the rows, their last two columns swapped. -/
def views (R : FVec Ideal S500x3x3 .f32) (C : FVec Ideal S500x3 .f32) : FVec Ideal S500x4x4 .f32 :=
  Host.dotGeneral dot_S500x4x4_S4x4_S500x4x4_2_0_01_1_n_n none (rows4 R C) swp

theorem rows_top (R : FVec Ideal S500x3x3 .f32) (C : FVec Ideal S500x3 .f32) (g : Fin 500) (i : Fin 3) (k : Fin 3) :
    rows4 R C (ix3 g i.castSucc k.castSucc) = R (ix3 g i k) := by
  fin_cases i <;> fin_cases k <;> (pointwise [rows4]; exact dif_pos (by decide))
theorem rows_bot (R : FVec Ideal S500x3x3 .f32) (C : FVec Ideal S500x3 .f32) (g : Fin 500) (k : Fin 3) :
    rows4 R C (ix3 g 3 k.castSucc) = -(R (ix3 g 0 k) * C (ix2 g 0) + R (ix3 g 1 k) * C (ix2 g 1) + R (ix3 g 2 k) * C (ix2 g 2)) := by
  fin_cases k <;> (pointwise [rows4]; rw [Fin.sum_univ_three])
theorem view_at (M : FVec Ideal S500x4x4 .f32) (W : FVec Ideal S4x4 .f32) (g : Fin 500) (i : Fin 4) (k : Fin 4) :
    Host.dotGeneral (F := Ideal) dot_S500x4x4_S4x4_S500x4x4_2_0_01_1_n_n none M W (ix3 g i k)
      = M (ix3 g i 0) * W (ix2 0 k) + M (ix3 g i 1) * W (ix2 1 k) + M (ix3 g i 2) * W (ix2 2 k) + M (ix3 g i 3) * W (ix2 3 k) := by
  pointwise
  rw [Fin.sum_univ_four]
theorem swp00 : swp (ix2 0 0) = 1 := Ideal.ofBits_one_f32
theorem swp10 : swp (ix2 1 0) = 0 := Ideal.ofBits_zero_f32
theorem swp20 : swp (ix2 2 0) = 0 := Ideal.ofBits_zero_f32
theorem swp30 : swp (ix2 3 0) = 0 := Ideal.ofBits_zero_f32
theorem swp01 : swp (ix2 0 1) = 0 := Ideal.ofBits_zero_f32
theorem swp11 : swp (ix2 1 1) = 1 := Ideal.ofBits_one_f32
theorem swp21 : swp (ix2 2 1) = 0 := Ideal.ofBits_zero_f32
theorem swp31 : swp (ix2 3 1) = 0 := Ideal.ofBits_zero_f32
theorem views0 (R : FVec Ideal S500x3x3 .f32) (C : FVec Ideal S500x3 .f32) (g : Fin 500) (i : Fin 4) :
    views R C (ix3 g i 0) = rows4 R C (ix3 g i 0) := by
  unfold views
  rw [view_at, swp00, swp10, swp20, swp30, mul_one, mul_zero, mul_zero, mul_zero, add_zero, add_zero, add_zero]
theorem views1 (R : FVec Ideal S500x3x3 .f32) (C : FVec Ideal S500x3 .f32) (g : Fin 500) (i : Fin 4) :
    views R C (ix3 g i 1) = rows4 R C (ix3 g i 1) := by
  unfold views
  rw [view_at, swp01, swp11, swp21, swp31, mul_one, mul_zero, mul_zero, mul_zero, zero_add, add_zero, add_zero]
/-- The nodes, each with its graph's view, the first two coordinates kept. -/
def pts (x : FVec Ideal S50000x3 .f32) (G : FVec Ideal S50000x4x4 .f32) : FVec Ideal S50000x2 .f32 :=
  extractStridedSlice S50000x2 ![0, 0] (Host.dotGeneral (F := Ideal) dot_S50000x4_S50000x4x4_S50000x4_1_1_n_2_0_0 none (concatenate S50000x4 1 [⟨S50000x3, x⟩, ⟨S50000x1, (broadcastInDim S50000x1 ![] bcast_S_S50000x1 (constant S_ .f32 0x3F800000#32))⟩] concatenates_S50000x3_S50000x1_S50000x4_d1) G) slices_S50000x4_S50000x2_0_0
theorem pts0 (x : FVec Ideal S50000x3 .f32) (G : FVec Ideal S50000x4x4 .f32) (n : Fin 50000) :
    pts x G (ix2 n 0) = x (ix2 n 0) * G (ix3 n 0 0) + x (ix2 n 1) * G (ix3 n 1 0) + x (ix2 n 2) * G (ix3 n 2 0) + G (ix3 n 3 0) := by
  pointwise [pts]
  rw [Fin.sum_univ_three, Fin.sum_univ_one]; rfl
theorem pts1 (x : FVec Ideal S50000x3 .f32) (G : FVec Ideal S50000x4x4 .f32) (n : Fin 50000) :
    pts x G (ix2 n 1) = x (ix2 n 0) * G (ix3 n 0 1) + x (ix2 n 1) * G (ix3 n 1 1) + x (ix2 n 2) * G (ix3 n 2 1) + G (ix3 n 3 1) := by
  pointwise [pts]
  rw [Fin.sum_univ_three, Fin.sum_univ_one]; rfl

/-- The graph of a node as the index the gather reads. -/
def graphIdx (b : IVec S50000 32) : IVec S50000x1 32 :=
  broadcastInDim S50000x1 ![0] bcast_S50000_S50000x1_0 (select (cmpi .slt b (broadcastInDim S50000 ![] bcast_S_S50000 (constantI S_ 32 0#32))) (addi b (broadcastInDim S50000 ![] bcast_S_S50000 (constantI S_ 32 500#32))) b)
theorem graphIdx_at (b : IVec S50000 32) (n : Fin 50000) (g : Fin 500) (h : b (ix1 n) = BitVec.ofNat 32 g.val) :
    graphIdx b (ix2 n 0) = BitVec.ofNat 32 g.val := by
  pointwise [graphIdx]
  rw [h]
  have hg := g.isLt
  refine Routing.wrap_of_lt _ _ ?_
  rw [BitVec.toNat_ofNat]
  omega

section
variable (V0 : Valuation τ sig (Elt Ideal)) (ang : Fin 500 → Fin 2 → ℝ) (pos : Fin 50000 → Fin 3 → ℝ)
  (h0 : ∀ g k, (V0 (Proc.devRef .tc main_arg0) : Vec Ideal S500x2 .f32) (ix2 g k) = ((ang g k : ℝ) : EReal))
  (h1 : ∀ n k, (V0 (Proc.devRef .tc main_arg1) : Vec Ideal S50000x3 .f32) (ix2 n k) = ((pos n k : ℝ) : EReal))
  (h5 : ∀ g i, (V0 (Proc.devRef .tc main_arg5) : IVec S50000 32) (ix1 (nodeAt g i)) = BitVec.ofNat 32 g.val)

theorem v135_eq : (Value.res_main_v135 V0 : FVec Ideal S50000x2 .f32)
    = pts (V0 (Proc.devRef .tc main_arg1)) (Host.gather gather_S500x4x4_S50000x1_S50000x4x4_12_0_n_n_0_1_144
        (views (Value.res_main_v114 V0) (Value.res_main_v18 V0)) (graphIdx (V0 (Proc.devRef .tc main_arg5)))) := rfl

include h5 in
theorem gath_at (M : FVec Ideal S500x4x4 .f32) (g : Fin 500) (p : Fin 100) (i k : Fin 4) :
    Host.gather gather_S500x4x4_S50000x1_S50000x4x4_12_0_n_n_0_1_144 M (graphIdx (V0 (Proc.devRef .tc main_arg5))) (ix3 (nodeAt g p) i k) = M (ix3 g i k) :=
  gather_mat gather_S500x4x4_S50000x1_S50000x4x4_12_0_n_n_0_1_144_wf M _ (nodeAt g p) i k g (graphIdx_at _ _ _ (h5 g p)) (by norm_num)

include h0 h1 h5
/-- The first screen coordinate of a node. -/
theorem scr0 (g : Fin 500) (i : Fin 100) : (Value.res_main_v135 V0 : FVec Ideal S50000x2 .f32) (ix2 (nodeAt g i) 0) = ((sX ang pos g i : ℝ) : EReal) := by
  rw [v135_eq, pts0]
  simp only [gath_at V0 h5, views0]
  rw [show rows4 (Value.res_main_v114 V0) (Value.res_main_v18 V0) (ix3 g 0 0) = _ from rows_top _ _ g 0 0,
    show rows4 (Value.res_main_v114 V0) (Value.res_main_v18 V0) (ix3 g 1 0) = _ from rows_top _ _ g 1 0,
    show rows4 (Value.res_main_v114 V0) (Value.res_main_v18 V0) (ix3 g 2 0) = _ from rows_top _ _ g 2 0,
    show rows4 (Value.res_main_v114 V0) (Value.res_main_v18 V0) (ix3 g 3 0) = _ from rows_bot _ _ g 0,
    rR00 V0 ang h0, rR10 V0 ang h0, rR20 V0 ang h0, rC0 V0 ang h0, rC1 V0 ang h0, rC2 V0 ang h0, h1, h1, h1]
  simp only [rmul, radd, rneg]
  refine congrArg _ ?_
  unfold sX scrX t0
  ring
/-- The second screen coordinate of a node. -/
theorem scr1 (g : Fin 500) (i : Fin 100) : (Value.res_main_v135 V0 : FVec Ideal S50000x2 .f32) (ix2 (nodeAt g i) 1) = ((sY ang pos g i : ℝ) : EReal) := by
  rw [v135_eq, pts1]
  simp only [gath_at V0 h5, views1]
  rw [show rows4 (Value.res_main_v114 V0) (Value.res_main_v18 V0) (ix3 g 0 1) = _ from rows_top _ _ g 0 1,
    show rows4 (Value.res_main_v114 V0) (Value.res_main_v18 V0) (ix3 g 1 1) = _ from rows_top _ _ g 1 1,
    show rows4 (Value.res_main_v114 V0) (Value.res_main_v18 V0) (ix3 g 2 1) = _ from rows_top _ _ g 2 1,
    show rows4 (Value.res_main_v114 V0) (Value.res_main_v18 V0) (ix3 g 3 1) = _ from rows_bot _ _ g 1,
    rR01 V0 ang h0, rR11 V0 ang h0, rR21 V0 ang h0, rC0 V0 ang h0, rC1 V0 ang h0, rC2 V0 ang h0, h1, h1, h1]
  simp only [rmul, radd, rneg]
  refine congrArg _ ?_
  unfold sY scrY t1
  ring
end

end Cert.ReferenceIdeal.Hand

end
-- ==== Proof.RefNorm.lean ====
module

public import proofs.«01_k».proof.Proof.RefView

@[expose] public section

set_option maxRecDepth 16384

noncomputable section

namespace Cert.ReferenceIdeal.Hand

open Cert.ReferenceIdeal Cert.ReferenceIdeal.Gen Cert.Stress
open Idealize.ShloMosaic Idealize.ShloMosaic.TcCoe Idealize.SL.Sem

/-! ## The screen shifted to its least corner and scaled by its greatest coordinate -/

/-- The least of each coordinate. -/
def lows (x : FVec Ideal S50000x2 .f32) : FVec Ideal S2 .f32 :=
  Host.reduce FloatOps.minimumf x (constant S_ .f32 0x7F800000#32) reducesTo_S50000x2_S2_d0 h_S_
/-- The greatest coordinate of all. -/
def high (x : FVec Ideal S50000x2 .f32) : FVec Ideal S_ .f32 :=
  Host.reduce FloatOps.maximumf x (constant S_ .f32 0xFF800000#32) reducesTo_S50000x2_S_d0_1 h_S_

theorem drop_at (n : Fin 50000) (k : Fin 2) : (reducesTo_S50000x2_S2_d0 : S50000x2.ReducesTo [0] S2).drop (ix2 n k) = ix1 k := by
  funext a
  match a with
  | ⟨0, _⟩ => rfl

theorem shift_at (x : FVec Ideal S50000x2 .f32) (L : FVec Ideal S2 .f32) (n : Fin 50000) (k : Fin 2) :
    subf x (broadcastInDim S50000x2 ![0, 1] bcast_S1x2_S50000x2_0_1 (broadcastInDim S1x2 ![1] bcast_S2_S1x2_1 L)) (ix2 n k) = x (ix2 n k) - L (ix1 k) := by
  pointwise
theorem scale_at (x : FVec Ideal S50000x2 .f32) (H : FVec Ideal S_ .f32) (n : Fin 50000) (k : Fin 2) :
    Host.divf x (broadcastInDim S50000x2 ![] bcast_S_S50000x2 H) (ix2 n k) = Ideal.div (x (ix2 n k)) (H ix0) := by
  pointwise

/-- The least of each coordinate of an array of reals is a real, at most each of them. -/
theorem lows_real (x : FVec Ideal S50000x2 .f32) (hx : ∀ n k, ∃ r : ℝ, x (ix2 n k) = (r : EReal)) (k : Fin 2) :
    ∃ r : ℝ, lows x (ix1 k) = (r : EReal) ∧ ∀ n, (r : EReal) ≤ x (ix2 n k) := by
  obtain ⟨r, h1, h2⟩ := reduce_min (x : S50000x2.Idx → EReal) (constant (F := Ideal) S_ .f32 0x7F800000#32) reducesTo_S50000x2_S2_d0 h_S_ (ix1 k)
    lit_top (fun i => by rw [eq_ix2 i]; exact hx _ _) (ix2 0 k) (drop_at 0 k)
  exact ⟨r, h1, fun n => h2 _ (drop_at n k)⟩
/-- The greatest coordinate of an array of reals is a real, at least each of them. -/
theorem high_real (x : FVec Ideal S50000x2 .f32) (hx : ∀ n k, ∃ r : ℝ, x (ix2 n k) = (r : EReal)) :
    ∃ r : ℝ, high x ix0 = (r : EReal) ∧ ∀ n k, x (ix2 n k) ≤ (r : EReal) := by
  obtain ⟨r, h1, h2⟩ := reduce_max (x : S50000x2.Idx → EReal) (constant (F := Ideal) S_ .f32 0xFF800000#32) reducesTo_S50000x2_S_d0_1 h_S_ ix0
    lit_bot (fun i => by rw [eq_ix2 i]; exact hx _ _) (ix2 0 0) (funext fun a => a.elim0)
  exact ⟨r, h1, fun n k => h2 _ (funext fun a => a.elim0)⟩

section
variable (V0 : Valuation τ sig (Elt Ideal)) (ang : Fin 500 → Fin 2 → ℝ) (pos : Fin 50000 → Fin 3 → ℝ)
  (h0 : ∀ g k, (V0 (Proc.devRef .tc main_arg0) : Vec Ideal S500x2 .f32) (ix2 g k) = ((ang g k : ℝ) : EReal))
  (h1 : ∀ n k, (V0 (Proc.devRef .tc main_arg1) : Vec Ideal S50000x3 .f32) (ix2 n k) = ((pos n k : ℝ) : EReal))
  (h5 : ∀ g i, (V0 (Proc.devRef .tc main_arg5) : IVec S50000 32) (ix1 (nodeAt g i)) = BitVec.ofNat 32 g.val)

theorem v139_eq : (Value.res_main_v139 V0 : FVec Ideal S50000x2 .f32)
    = subf (F := Ideal) (φ := .f32) (Value.res_main_v135 V0) (broadcastInDim S50000x2 ![0, 1] bcast_S1x2_S50000x2_0_1 (broadcastInDim S1x2 ![1] bcast_S2_S1x2_1 (lows (Value.res_main_v135 V0)))) := rfl
theorem v142_eq : (Value.res_main_v142 V0 : FVec Ideal S50000x2 .f32)
    = Host.divf (F := Ideal) (φ := .f32) (Value.res_main_v139 V0) (broadcastInDim S50000x2 ![] bcast_S_S50000x2 (high (Value.res_main_v139 V0))) := rfl

include h0 h1 h5
/-- Where two nodes stand apart on the screen, the reference's node places are the screen's, shifted and scaled by positive reals. -/
theorem nodes_real (hap : ∃ g i g' i', sX ang pos g i ≠ sX ang pos g' i' ∨ sY ang pos g i ≠ sY ang pos g' i') :
    ∃ p q c : ℝ, 0 < c ∧ (∀ g i, (Value.res_main_v142 V0 : FVec Ideal S50000x2 .f32) (ix2 (nodeAt g i) 0) = (((sX ang pos g i - p) / c : ℝ) : EReal))
      ∧ (∀ g i, (Value.res_main_v142 V0 : FVec Ideal S50000x2 .f32) (ix2 (nodeAt g i) 1) = (((sY ang pos g i - q) / c : ℝ) : EReal)) := by
  have s0 := scr0 V0 ang pos h0 h1 h5
  have s1 := scr1 V0 ang pos h0 h1 h5
  have hx : ∀ n k, ∃ r : ℝ, (Value.res_main_v135 V0 : FVec Ideal S50000x2 .f32) (ix2 n k) = (r : EReal) := by
    intro n k
    obtain ⟨g, i, rfl⟩ := node_cases n
    fin_cases k
    exacts [⟨_, s0 g i⟩, ⟨_, s1 g i⟩]
  obtain ⟨p, hp, lp⟩ := lows_real (Value.res_main_v135 V0) hx 0
  obtain ⟨q, hq, lq⟩ := lows_real (Value.res_main_v135 V0) hx 1
  have t0 : ∀ g i, (Value.res_main_v139 V0 : FVec Ideal S50000x2 .f32) (ix2 (nodeAt g i) 0) = ((sX ang pos g i - p : ℝ) : EReal) := fun g i => by
    rw [v139_eq, shift_at, hp, s0 g i, rsub]
  have t1 : ∀ g i, (Value.res_main_v139 V0 : FVec Ideal S50000x2 .f32) (ix2 (nodeAt g i) 1) = ((sY ang pos g i - q : ℝ) : EReal) := fun g i => by
    rw [v139_eq, shift_at, hq, s1 g i, rsub]
  have hy : ∀ n k, ∃ r : ℝ, (Value.res_main_v139 V0 : FVec Ideal S50000x2 .f32) (ix2 n k) = (r : EReal) := by
    intro n k
    obtain ⟨g, i, rfl⟩ := node_cases n
    fin_cases k
    exacts [⟨_, t0 g i⟩, ⟨_, t1 g i⟩]
  obtain ⟨c, hc, lc⟩ := high_real (Value.res_main_v139 V0) hy
  have lp' : ∀ g i, p ≤ sX ang pos g i := fun g i => EReal.coe_le_coe_iff.1 (by rw [← s0 g i]; exact lp _)
  have lq' : ∀ g i, q ≤ sY ang pos g i := fun g i => EReal.coe_le_coe_iff.1 (by rw [← s1 g i]; exact lq _)
  have lc0 : ∀ g i, sX ang pos g i - p ≤ c := fun g i => EReal.coe_le_coe_iff.1 (by rw [← t0 g i]; exact lc _ _)
  have lc1 : ∀ g i, sY ang pos g i - q ≤ c := fun g i => EReal.coe_le_coe_iff.1 (by rw [← t1 g i]; exact lc _ _)
  have hpos : 0 < c := by
    obtain ⟨g, i, g', i', h | h⟩ := hap
    · have a1 := lp' g i; have a2 := lp' g' i'; have a3 := lc0 g i; have a4 := lc0 g' i'
      rcases lt_or_gt_of_ne h with h | h <;> linarith
    · have a1 := lq' g i; have a2 := lq' g' i'; have a3 := lc1 g i; have a4 := lc1 g' i'
      rcases lt_or_gt_of_ne h with h | h <;> linarith
  refine ⟨p, q, c, hpos, fun g i => ?_, fun g i => ?_⟩
  · rw [v142_eq, scale_at, hc, t0 g i, rdiv _ hpos.ne']
  · rw [v142_eq, scale_at, hc, t1 g i, rdiv _ hpos.ne']
end

end Cert.ReferenceIdeal.Hand

end
-- ==== Proof.RefEdges.lean ====
module

public import proofs.«01_k».proof.Proof.RefNorm
public import Idealize.ShloMosaic.Lib.Routing.Ops
public import Idealize.ShloMosaic.Lib.Routing.OpsSet

@[expose] public section

set_option maxRecDepth 16384

noncomputable section

namespace Cert.Stress

/-- A value per edge, from its graph, its first node and its place among that node's edges. -/
def onEdge {M : Type} (f : Fin 500 → Fin 100 → Fin 99 → M) (e : Fin 4950000) : M :=
  f ⟨e.val / 9900, by omega⟩ ⟨e.val / 99 % 100, by omega⟩ ⟨e.val % 99, by omega⟩
theorem onEdge_at {M : Type} (f : Fin 500 → Fin 100 → Fin 99 → M) (g : Fin 500) (i : Fin 100) (k : Fin 99) : onEdge f (edgeAt g i k) = f g i k := by
  have e1 : (edgeAt g i k).val = g.val * 9900 + i.val * 99 + k.val := rfl
  unfold onEdge
  congr 1 <;> refine Fin.ext ?_ <;> simp only [e1] <;> omega
theorem sum_onEdge (f : Fin 500 → Fin 100 → Fin 99 → ℝ) : ∑ e, onEdge f e = ∑ g, ∑ i, ∑ k, f g i k := by
  rw [← sum_edges]
  simp only [onEdge_at]
/-- The graph of an edge. -/
def graphOf : Fin 4950000 → Fin 500 := onEdge fun g _ _ => g

end Cert.Stress

namespace Cert.ReferenceIdeal.Hand

open Cert.ReferenceIdeal Cert.ReferenceIdeal.Gen Cert.Stress
open Idealize.ShloMosaic Idealize.ShloMosaic.TcCoe Idealize.SL.Sem

/-- A row of node numbers as the index the gathers read. -/
def edgeIdx (b : IVec S4950000 32) : IVec S4950000x1 32 :=
  broadcastInDim S4950000x1 ![0] bcast_S4950000_S4950000x1_0 (select (cmpi .slt b (broadcastInDim S4950000 ![] bcast_S_S4950000 (constantI S_ 32 0#32))) (addi b (broadcastInDim S4950000 ![] bcast_S_S4950000 (constantI S_ 32 50000#32))) b)
theorem edgeIdx_at (b : IVec S4950000 32) (e : Fin 4950000) (n : Fin 50000) (h : b (ix1 e) = BitVec.ofNat 32 n.val) :
    edgeIdx b (ix2 e 0) = BitVec.ofNat 32 n.val := by
  pointwise [edgeIdx]
  rw [h]
  have hn := n.isLt
  refine Routing.wrap_of_lt _ _ ?_
  rw [BitVec.toNat_ofNat]
  omega
theorem row0 (x : IVec S2x4950000 32) (e : Fin 4950000) :
    shapeCast (α := BitVec 32) S4950000 (extractStridedSlice S1x4950000 ![0, 0] x slices_S2x4950000_S1x4950000_0_0) shapeCasts_S1x4950000_S4950000 (ix1 e) = x (ix2 0 e) := by
  pointwise
theorem row1 (x : IVec S2x4950000 32) (e : Fin 4950000) :
    shapeCast (α := BitVec 32) S4950000 (extractStridedSlice S1x4950000 ![1, 0] x slices_S2x4950000_S1x4950000_1_0) shapeCasts_S1x4950000_S4950000 (ix1 e) = x (ix2 1 e) := by
  pointwise
theorem col0 (x : FVec Ideal S4950000x4 .f32) (e : Fin 4950000) :
    shapeCast (α := EReal) S4950000 (extractStridedSlice S4950000x1 ![0, 0] x slices_S4950000x4_S4950000x1_0_0) shapeCasts_S4950000x1_S4950000 (ix1 e) = x (ix2 e 0) := by
  pointwise
/-- A host sum over a vector. -/
theorem sum_vec {n : Nat} (h : (⟨1, ![n]⟩ : Shape).ReducesTo [0] S_) (v : FVec Ideal ⟨1, ![n]⟩ .f32) :
    Host.reduceAdd (F := Ideal) v (constant S_ .f32 0x00000000#32) h h_S_ ix0 = ∑ e : Fin n, v (ix1 e) := by
  pointwise
/-- The root of the sum of the squares of a row of two. -/
theorem norm_row {n : Nat} (h : (⟨2, ![n, 2]⟩ : Shape).ReducesTo [1] ⟨1, ![n]⟩) (x : FVec Ideal ⟨2, ![n, 2]⟩ .f32) (e : Fin n) :
    Host.sqrt (F := Ideal) (φ := .f32) (Host.reduceAdd (mulf x x) (constant S_ .f32 0x00000000#32) h h_S_) (ix1 e)
      = Ideal.sqrt (x (ix2 e 0) * x (ix2 e 0) + x (ix2 e 1) * x (ix2 e 1)) := by
  pointwise
  rw [Fin.sum_univ_two]
theorem div_all (X : FVec Ideal S4950000 .f32) (T : FVec Ideal S_ .f32) (e : Fin 4950000) :
    Host.divf X (broadcastInDim S4950000 ![] bcast_S_S4950000 T) (ix1 e) = Ideal.div (X (ix1 e)) (T ix0) := by
  pointwise

theorem sub_at (x y : FVec Ideal S4950000x2 .f32) (e : Fin 4950000) (c : Fin 2) : subf x y (ix2 e c) = x (ix2 e c) - y (ix2 e c) := rfl

/-- The scale, from the edges' lengths and their wanted lengths. -/
def amt (G D : FVec Ideal S4950000 .f32) : FVec Ideal S_ .f32 :=
  Host.reduceAdd (Host.divf (Host.divf G D) (broadcastInDim S4950000 ![] bcast_S_S4950000 (Host.reduceAdd (Host.divf (mulf G G) (mulf D D)) (constant S_ .f32 0x00000000#32) reducesTo_S4950000_S_d0 h_S_))) (constant S_ .f32 0x00000000#32) reducesTo_S4950000_S_d0 h_S_
theorem amt_at (G D : FVec Ideal S4950000 .f32) :
    amt G D ix0 = ∑ e : Fin 4950000, Ideal.div (Ideal.div (G (ix1 e)) (D (ix1 e))) (∑ e' : Fin 4950000, Ideal.div (G (ix1 e') * G (ix1 e')) (D (ix1 e') * D (ix1 e'))) := by
  unfold amt
  refine (sum_vec reducesTo_S4950000_S_d0 _).trans (Finset.sum_congr rfl fun e _ => ?_)
  rw [div_all]
  exact congrArg _ (sum_vec reducesTo_S4950000_S_d0 _)
/-- The scaled difference of two places. -/
def diffs (S : FVec Ideal S_ .f32) (x y : FVec Ideal S4950000x2 .f32) : FVec Ideal S4950000x2 .f32 :=
  subf (extractStridedSlice S4950000x2 ![0, 0] (mulf (broadcastInDim S4950000x4 ![] bcast_S_S4950000x4 S) (concatenate S4950000x4 1 [⟨S4950000x2, x⟩, ⟨S4950000x2, y⟩] concatenates_S4950000x2_S4950000x2_S4950000x4_d1)) slices_S4950000x4_S4950000x2_0_0)
    (extractStridedSlice S4950000x2 ![0, 2] (mulf (broadcastInDim S4950000x4 ![] bcast_S_S4950000x4 S) (concatenate S4950000x4 1 [⟨S4950000x2, x⟩, ⟨S4950000x2, y⟩] concatenates_S4950000x2_S4950000x2_S4950000x4_d1)) slices_S4950000x4_S4950000x2_0_2)
theorem diffs0 (S : FVec Ideal S_ .f32) (x y : FVec Ideal S4950000x2 .f32) (e : Fin 4950000) :
    diffs S x y (ix2 e 0) = S ix0 * x (ix2 e 0) - S ix0 * y (ix2 e 0) := by
  pointwise [diffs]
theorem diffs1 (S : FVec Ideal S_ .f32) (x y : FVec Ideal S4950000x2 .f32) (e : Fin 4950000) :
    diffs S x y (ix2 e 1) = S ix0 * x (ix2 e 1) - S ix0 * y (ix2 e 1) := by
  pointwise [diffs]
/-- How far a length is from the wanted one, relative to it. -/
theorem err_at (G D : FVec Ideal S4950000 .f32) (e : Fin 4950000) :
    Host.divf (F := Ideal) (φ := .f32) (Host.absf (subf G D)) D (ix1 e) = Ideal.div (FloatOps.hostAbsf (F := Ideal) (φ := .f32) (G (ix1 e) - D (ix1 e))) (D (ix1 e)) := by
  pointwise

section
variable (V0 : Valuation τ sig (Elt Ideal)) (ang : Fin 500 → Fin 2 → ℝ) (pos : Fin 50000 → Fin 3 → ℝ) (d : Fin 4950000 → ℝ)
  (h0 : ∀ g k, (V0 (Proc.devRef .tc main_arg0) : Vec Ideal S500x2 .f32) (ix2 g k) = ((ang g k : ℝ) : EReal))
  (h1 : ∀ n k, (V0 (Proc.devRef .tc main_arg1) : Vec Ideal S50000x3 .f32) (ix2 n k) = ((pos n k : ℝ) : EReal))
  (h3s : ∀ g i k, (V0 (Proc.devRef .tc main_arg3) : IVec S2x4950000 32) (ix2 0 (edgeAt g i k)) = BitVec.ofNat 32 (nodeAt g i).val)
  (h3d : ∀ g i k, (V0 (Proc.devRef .tc main_arg3) : IVec S2x4950000 32) (ix2 1 (edgeAt g i k)) = BitVec.ofNat 32 (nodeAt g (i.succAbove k)).val)
  (h4 : ∀ e, (V0 (Proc.devRef .tc main_arg4) : Vec Ideal S4950000x4 .f32) (ix2 e 0) = ((d e : ℝ) : EReal))
  (h5 : ∀ g i, (V0 (Proc.devRef .tc main_arg5) : IVec S50000 32) (ix1 (nodeAt g i)) = BitVec.ofNat 32 g.val)

theorem v144_at (e : Fin 4950000) : (Value.res_main_v144 V0 : IVec S4950000 32) (ix1 e) = (V0 (Proc.devRef .tc main_arg3) : IVec S2x4950000 32) (ix2 0 e) := row0 _ e
theorem v153_at (e : Fin 4950000) : (Value.res_main_v153 V0 : IVec S4950000 32) (ix1 e) = (V0 (Proc.devRef .tc main_arg3) : IVec S2x4950000 32) (ix2 1 e) := row1 _ e
theorem v185_at (e : Fin 4950000) : (Value.res_main_v185 V0 : IVec S4950000 32) (ix1 e) = (V0 (Proc.devRef .tc main_arg3) : IVec S2x4950000 32) (ix2 0 e) := row0 _ e
include h4 in
theorem v164_at (e : Fin 4950000) : (Value.res_main_v164 V0 : FVec Ideal S4950000 .f32) (ix1 e) = ((d e : ℝ) : EReal) := (col0 _ e).trans (h4 e)
include h3s in
/-- The place of an edge's first node. -/
theorem v151_at (g : Fin 500) (i : Fin 100) (k : Fin 99) (c : Fin 2) :
    (Value.res_main_v151 V0 : FVec Ideal S4950000x2 .f32) (ix2 (edgeAt g i k) c) = (Value.res_main_v142 V0 : FVec Ideal S50000x2 .f32) (ix2 (nodeAt g i) c) :=
  Routing.gather_row gather_S50000x2_S4950000x1_S4950000x2_1_0_n_n_0_1_12 rfl rfl rfl rfl rfl (Value.res_main_v142 V0 : FVec Ideal S50000x2 .f32) (edgeIdx (Value.res_main_v144 V0)) (edgeAt g i k) c (nodeAt g i)
    (edgeIdx_at _ _ _ ((v144_at V0 _).trans (h3s g i k))) (by norm_num)
include h3d in
/-- The place of an edge's second node. -/
theorem v160_at (g : Fin 500) (i : Fin 100) (k : Fin 99) (c : Fin 2) :
    (Value.res_main_v160 V0 : FVec Ideal S4950000x2 .f32) (ix2 (edgeAt g i k) c) = (Value.res_main_v142 V0 : FVec Ideal S50000x2 .f32) (ix2 (nodeAt g (i.succAbove k)) c) :=
  Routing.gather_row gather_S50000x2_S4950000x1_S4950000x2_1_0_n_n_0_1_12 rfl rfl rfl rfl rfl (Value.res_main_v142 V0 : FVec Ideal S50000x2 .f32) (edgeIdx (Value.res_main_v153 V0)) (edgeAt g i k) c (nodeAt g (i.succAbove k))
    (edgeIdx_at _ _ _ ((v153_at V0 _).trans (h3d g i k))) (by norm_num)
theorem v161_eq : (Value.res_main_v161 V0 : FVec Ideal S4950000x2 .f32) = subf (F := Ideal) (φ := .f32) (Value.res_main_v151 V0) (Value.res_main_v160 V0) := rfl
theorem v162_eq : (Value.res_main_v162 V0 : FVec Ideal S4950000 .f32) = Host.sqrt (F := Ideal) (φ := .f32) (Host.reduceAdd (mulf (F := Ideal) (φ := .f32) (Value.res_main_v161 V0) (Value.res_main_v161 V0)) (constant S_ .f32 0x00000000#32) reducesTo_S4950000x2_S4950000_d1 h_S_) := rfl
theorem v178_eq : (Value.res_main_v178 V0 : FVec Ideal S4950000x2 .f32) = diffs (amt (Value.res_main_v162 V0) (Value.res_main_v164 V0)) (Value.res_main_v151 V0) (Value.res_main_v160 V0) := rfl
theorem v182_eq : (Value.res_main_v182 V0 : FVec Ideal S4950000 .f32) = Host.divf (F := Ideal) (φ := .f32) (Host.absf (F := Ideal) (φ := .f32) (subf (F := Ideal) (φ := .f32) (Host.sqrt (F := Ideal) (φ := .f32) (Host.reduceAdd (mulf (F := Ideal) (φ := .f32) (Value.res_main_v178 V0) (Value.res_main_v178 V0)) (constant S_ .f32 0x00000000#32) reducesTo_S4950000x2_S4950000_d1 h_S_)) (Value.res_main_v164 V0))) (Value.res_main_v164 V0) := rfl
end

end Cert.ReferenceIdeal.Hand

end
-- ==== Proof.RefValue.lean ====
module

public import proofs.«01_k».proof.Proof.RefEdges

@[expose] public section

set_option maxRecDepth 16384

noncomputable section

namespace Cert.Stress

variable (ang : Fin 500 → Fin 2 → ℝ) (pos : Fin 50000 → Fin 3 → ℝ) (d : Fin 4950000 → ℝ)

/-- The length of an edge on the screen. -/
def eGap (e : Fin 4950000) : ℝ :=
  onEdge (fun g i k => gap (sX ang pos g i) (sY ang pos g i) (sX ang pos g (i.succAbove k)) (sY ang pos g (i.succAbove k))) e
theorem eGap_at (g : Fin 500) (i : Fin 100) (k : Fin 99) : eGap ang pos (edgeAt g i k)
    = gap (sX ang pos g i) (sY ang pos g i) (sX ang pos g (i.succAbove k)) (sY ang pos g (i.succAbove k)) := onEdge_at _ g i k
theorem eGap_nonneg (e : Fin 4950000) : 0 ≤ eGap ang pos e := by
  obtain ⟨g, i, k, rfl⟩ := edge_cases e
  rw [eGap_at]; exact gap_nonneg _ _ _ _
theorem allQuo_eq : ∑ e, eGap ang pos e / d e = allQuo ang pos d := by
  rw [← sum_edges]
  simp only [eGap_at]
  rfl
theorem allSq_eq : ∑ e, (eGap ang pos e / d e) * (eGap ang pos e / d e) = allSq ang pos d := by
  rw [← sum_edges]
  simp only [eGap_at]
  rfl
/-- Where the sum of squares is not zero, two nodes stand apart on the screen. -/
theorem apart_of (hA : allSq ang pos d ≠ 0) : ∃ g i g' i', sX ang pos g i ≠ sX ang pos g' i' ∨ sY ang pos g i ≠ sY ang pos g' i' := by
  by_contra hn
  push Not at hn
  refine hA ?_
  rw [← allSq_eq, ← sum_edges]
  refine Finset.sum_eq_zero fun g _ => Finset.sum_eq_zero fun i _ => Finset.sum_eq_zero fun k _ => ?_
  rw [eGap_at, (hn g i g (i.succAbove k)).1, (hn g i g (i.succAbove k)).2]
  unfold gap
  rw [sub_self, sub_self, mul_zero, add_zero, Real.sqrt_zero, zero_div, mul_zero]
theorem allSq_pos (hA : allSq ang pos d ≠ 0) : 0 < allSq ang pos d :=
  lt_of_le_of_ne (by rw [← allSq_eq]; exact Finset.sum_nonneg fun e _ => mul_self_nonneg _) hA.symm
theorem allQuo_nonneg (hd : ∀ e, 0 < d e) : 0 ≤ allQuo ang pos d := by
  rw [← allQuo_eq]
  exact Finset.sum_nonneg fun e _ => div_nonneg (eGap_nonneg ang pos e) (hd e).le
/-- The relative error of an edge, at the best scale, squared. -/
def eErr (e : Fin 4950000) : ℝ :=
  (allQuo ang pos d / allSq ang pos d * (eGap ang pos e / d e) - 1) * (allQuo ang pos d / allSq ang pos d * (eGap ang pos e / d e) - 1)
theorem sum_err : (∑ e, eErr ang pos d e) * 1000 / 9900 / 500 = stress (allSq ang pos d) (allQuo ang pos d) := by
  have e1 : ∑ e, eErr ang pos d e = allQuo ang pos d / allSq ang pos d * (allQuo ang pos d / allSq ang pos d) * allSq ang pos d
      - 2 * (allQuo ang pos d / allSq ang pos d) * allQuo ang pos d + 4950000 := by
    generalize ht : allQuo ang pos d / allSq ang pos d = t
    rw [← allSq_eq, ← allQuo_eq, Finset.mul_sum, Finset.mul_sum, ← Finset.sum_sub_distrib,
      show (4950000 : ℝ) = ∑ _e : Fin 4950000, (1 : ℝ) by rw [Finset.sum_const, Finset.card_univ, Fintype.card_fin, nsmul_eq_mul, mul_one]; norm_num,
      ← Finset.sum_add_distrib]
    refine Finset.sum_congr rfl fun e _ => ?_
    unfold eErr
    rw [ht]
    ring
  rw [e1]
  unfold stress wt
  ring

end Cert.Stress

namespace Cert.ReferenceIdeal.Hand

open Cert.ReferenceIdeal Cert.ReferenceIdeal.Gen Cert.Stress
open Idealize.ShloMosaic Idealize.ShloMosaic.TcCoe Idealize.SL.Sem

/-- The scale in reals, when all lengths are shrunk by `c`. -/
theorem amt_real (G D : FVec Ideal S4950000 .f32) (q d : Fin 4950000 → ℝ) (c : ℝ) (hc : c ≠ 0) (hd : ∀ e, d e ≠ 0)
    (hG : ∀ e, G (ix1 e) = ((q e / c : ℝ) : EReal)) (hD : ∀ e, D (ix1 e) = ((d e : ℝ) : EReal)) (hA : ∑ e, (q e / d e) * (q e / d e) ≠ 0) :
    amt G D ix0 = (((∑ e, q e / d e) / (∑ e, (q e / d e) * (q e / d e)) * c : ℝ) : EReal) := by
  have hT : (∑ e' : Fin 4950000, Ideal.div (G (ix1 e') * G (ix1 e')) (D (ix1 e') * D (ix1 e'))) = (((∑ e, (q e / d e) * (q e / d e)) / (c * c) : ℝ) : EReal) := by
    rw [Finset.sum_div, ← rsum]
    refine Finset.sum_congr rfl fun e _ => ?_
    rw [hG, hD, rmul, rmul, rdiv _ (mul_ne_zero (hd e) (hd e))]
    refine congrArg _ ?_
    have := hd e
    field_simp
  rw [amt_at, hT, show (∑ e, q e / d e) / (∑ e, (q e / d e) * (q e / d e)) * c = ∑ e, q e / d e / (∑ e, (q e / d e) * (q e / d e)) * c by
    rw [Finset.sum_div, Finset.sum_mul], ← rsum]
  refine Finset.sum_congr rfl fun e _ => ?_
  rw [hG, hD, rdiv _ (hd e), rdiv _ (div_ne_zero hA (mul_ne_zero hc hc))]
  refine congrArg _ ?_
  have := hd e
  field_simp

/-- The root of the squares of a scaled difference. -/
theorem root_scaled (s x y : ℝ) : Real.sqrt ((s * x) * (s * x) + (s * y) * (s * y)) = |s| * Real.sqrt (x * x + y * y) := by
  rw [show (s * x) * (s * x) + (s * y) * (s * y) = s * s * (x * x + y * y) by ring, Real.sqrt_mul (mul_self_nonneg s), Real.sqrt_mul_self_eq_abs]

section
variable (V0 : Valuation τ sig (Elt Ideal)) (ang : Fin 500 → Fin 2 → ℝ) (pos : Fin 50000 → Fin 3 → ℝ) (d : Fin 4950000 → ℝ)
  (h0 : ∀ g k, (V0 (Proc.devRef .tc main_arg0) : Vec Ideal S500x2 .f32) (ix2 g k) = ((ang g k : ℝ) : EReal))
  (h1 : ∀ n k, (V0 (Proc.devRef .tc main_arg1) : Vec Ideal S50000x3 .f32) (ix2 n k) = ((pos n k : ℝ) : EReal))
  (h3s : ∀ g i k, (V0 (Proc.devRef .tc main_arg3) : IVec S2x4950000 32) (ix2 0 (edgeAt g i k)) = BitVec.ofNat 32 (nodeAt g i).val)
  (h3d : ∀ g i k, (V0 (Proc.devRef .tc main_arg3) : IVec S2x4950000 32) (ix2 1 (edgeAt g i k)) = BitVec.ofNat 32 (nodeAt g (i.succAbove k)).val)
  (h4 : ∀ e, (V0 (Proc.devRef .tc main_arg4) : Vec Ideal S4950000x4 .f32) (ix2 e 0) = ((d e : ℝ) : EReal))
  (h5 : ∀ g i, (V0 (Proc.devRef .tc main_arg5) : IVec S50000 32) (ix1 (nodeAt g i)) = BitVec.ofNat 32 g.val)
  (hd : ∀ e, 0 < d e) (hA : allSq ang pos d ≠ 0)

include h0 h1 h3s h3d h4 h5 hd hA
/-- The reference's relative errors. -/
theorem v182_at (e : Fin 4950000) : ∃ r : ℝ, (Value.res_main_v182 V0 : FVec Ideal S4950000 .f32) (ix1 e) = (r : EReal) ∧ r * r = eErr ang pos d e := by
  obtain ⟨p, q, c, hc, n0, n1⟩ := nodes_real V0 ang pos h0 h1 h5 (apart_of ang pos d hA)
  have hG : ∀ e, (Value.res_main_v162 V0 : FVec Ideal S4950000 .f32) (ix1 e) = ((eGap ang pos e / c : ℝ) : EReal) := fun e => by
    obtain ⟨g, i, k, rfl⟩ := edge_cases e
    rw [v162_eq, norm_row, v161_eq, sub_at, sub_at, v151_at V0 h3s, v160_at V0 h3d, v151_at V0 h3s, v160_at V0 h3d, n0, n0, n1, n1, rsub, rsub, rmul, rmul, radd, rsqrt2, eGap_at]
    refine congrArg _ ?_
    rw [show (sX ang pos g i - p) / c - (sX ang pos g (i.succAbove k) - p) / c = c⁻¹ * (sX ang pos g i - sX ang pos g (i.succAbove k)) by ring,
      show (sY ang pos g i - q) / c - (sY ang pos g (i.succAbove k) - q) / c = c⁻¹ * (sY ang pos g i - sY ang pos g (i.succAbove k)) by ring,
      root_scaled, abs_of_pos (inv_pos.2 hc)]
    unfold gap
    ring
  have hS := amt_real (Value.res_main_v162 V0) (Value.res_main_v164 V0) (eGap ang pos) d c hc.ne' (fun e => (hd e).ne') hG (v164_at V0 d h4)
    (by rw [allSq_eq]; exact hA)
  rw [allQuo_eq, allSq_eq] at hS
  obtain ⟨g, i, k, rfl⟩ := edge_cases e
  have hL : ∀ x : FVec Ideal S4950000x2 .f32, x = Value.res_main_v178 V0 →
      Ideal.sqrt (x (ix2 (edgeAt g i k) 0) * x (ix2 (edgeAt g i k) 0) + x (ix2 (edgeAt g i k) 1) * x (ix2 (edgeAt g i k) 1))
      = ((allQuo ang pos d / allSq ang pos d * eGap ang pos (edgeAt g i k) : ℝ) : EReal) := fun x hx => by
    rw [hx, v178_eq, diffs0, diffs1, hS, v151_at V0 h3s, v160_at V0 h3d, v151_at V0 h3s, v160_at V0 h3d, n0, n0, n1, n1, rmul, rmul, rmul, rmul, rsub, rsub, rmul, rmul, radd, rsqrt2, eGap_at]
    refine congrArg _ ?_
    have hc' := hc.ne'
    generalize hT : allQuo ang pos d / allSq ang pos d = T
    have T0 : 0 ≤ T := by rw [← hT]; exact div_nonneg (allQuo_nonneg ang pos d hd) (allSq_pos ang pos d hA).le
    rw [show T * c * ((sX ang pos g i - p) / c) - T * c * ((sX ang pos g (i.succAbove k) - p) / c) = T * (sX ang pos g i - sX ang pos g (i.succAbove k)) by field_simp; ring,
      show T * c * ((sY ang pos g i - q) / c) - T * c * ((sY ang pos g (i.succAbove k) - q) / c) = T * (sY ang pos g i - sY ang pos g (i.succAbove k)) by field_simp; ring,
      root_scaled, abs_of_nonneg T0]
    rfl
  refine ⟨|allQuo ang pos d / allSq ang pos d * eGap ang pos (edgeAt g i k) - d (edgeAt g i k)| / d (edgeAt g i k), ?_, ?_⟩
  · rw [v182_eq, err_at, norm_row, hL _ rfl, v164_at V0 d h4, rsub]
    rw [show FloatOps.hostAbsf (F := Ideal) (φ := .f32) ((allQuo ang pos d / allSq ang pos d * eGap ang pos (edgeAt g i k) - d (edgeAt g i k) : ℝ) : EReal)
      = ((|allQuo ang pos d / allSq ang pos d * eGap ang pos (edgeAt g i k) - d (edgeAt g i k)| : ℝ) : EReal) from ?_, rdiv _ (hd _).ne']
    show max _ _ = _
    rw [rneg, rmax]; rfl
  · unfold eErr
    have := (hd (edgeAt g i k)).ne'
    rw [div_mul_div_comm, abs_mul_abs_self]
    field_simp
end

end Cert.ReferenceIdeal.Hand

end
-- ==== Proof.RefSum.lean ====
module

public import proofs.«01_k».proof.Proof.RefValue

@[expose] public section

set_option maxRecDepth 16384

noncomputable section

namespace Cert.Stress

theorem graphOf_at (g : Fin 500) (i : Fin 100) (k : Fin 99) : graphOf (edgeAt g i k) = g := by
  unfold graphOf
  exact onEdge_at (fun g _ _ => g) g i k

open Idealize.ShloMosaic

/-! ## A sum per graph, scattered -/

section
variable {N n : Nat}
/-- The scatter of `n` scalars into a vector of `N`, one index each. -/
def vecDims (N n : Nat) (wf : ScatterDims.WF ⟨1, ![N]⟩ ⟨2, ![n, 1]⟩ ⟨1, ![n]⟩ [] [0] [0] 1) : ScatterDims ⟨1, ![N]⟩ ⟨2, ![n, 1]⟩ ⟨1, ![n]⟩ where
  updateWindowDims := []
  insertedWindowDims := [0]
  scatterDimsToOperandDims := [0]
  indexVectorDim := 1
  wf := wf
/-- Scalar `e` lands where its index says. -/
theorem lands (wf : ScatterDims.WF ⟨1, ![N]⟩ ⟨2, ![n, 1]⟩ ⟨1, ![n]⟩ [] [0] [0] 1) (idx : IVec ⟨2, ![n, 1]⟩ 32) (e : Fin n) (b : Fin N)
    (hN : N < 2 ^ 31) (hb : idx (ix2 e (0 : Fin 1)) = BitVec.ofNat 32 b.val) (x : Fin N) :
    (vecDims N n wf).resultIdx? (ix1 e) idx = some (ix1 x) ↔ b = x := by
  have hw : (vecDims N n wf).window (ix1 e) 0 = 0 := by
    unfold ScatterDims.window
    rw [dif_neg fun h => (of_decide_eq_true (List.mem_filter.1 h).2) (List.mem_singleton.2 rfl)]
  have hs : (vecDims N n wf).start (ix1 e) idx 0 = (idx (ix2 e (0 : Fin 1))).toInt := by
    unfold ScatterDims.start
    rw [dif_pos (show (0 : Fin 1) ∈ (vecDims N n wf).scatterDimsToOperandDims from List.mem_singleton.2 rfl)]
    have hsi : (vecDims N n wf).siIdx (ix1 e) ⟨List.idxOf (0 : Fin 1) (vecDims N n wf).scatterDimsToOperandDims,
        List.idxOf_lt_length_iff.2 (List.mem_singleton.2 rfl)⟩ = ix2 e (0 : Fin 1) := by
      funext b'; refine Fin.ext ?_
      match b' with
      | ⟨0, _⟩ => rfl
      | ⟨1, _⟩ => rfl
    rw [hsi]
  have hbl := b.isLt
  refine (Routing.resultIdx?_ix1 (vecDims N n wf) (ix1 e) idx x).trans ?_
  rw [hw, hs, hb, StableHlo.Predicate.toInt_ofNat_small _ (by omega), Fin.ext_iff]
  omega
/-- A sum over a vector's indices is one over its coordinates. -/
theorem sum_ix1 {M : Type} [AddCommMonoid M] (f : (⟨1, ![n]⟩ : Shape).Idx → M) : ∑ j, f j = ∑ e : Fin n, f (ix1 e) :=
  Fintype.sum_equiv ⟨fun j => j 0, fun e => ix1 e, fun j => (eq_ix1 j).symm, fun _ => rfl⟩ _ _ fun j => congrArg f (eq_ix1 j)
/-- What is scattered onto zero at `x`: the sum of the scalars whose index is `x`. -/
theorem scattered (wf : ScatterDims.WF ⟨1, ![N]⟩ ⟨2, ![n, 1]⟩ ⟨1, ![n]⟩ [] [0] [0] 1) (z : (⟨1, ![N]⟩ : Shape).Idx → EReal) (idx : IVec ⟨2, ![n, 1]⟩ 32)
    (upd : (⟨1, ![n]⟩ : Shape).Idx → EReal) (f : Fin n → ℝ) (b : Fin n → Fin N) (hN : N < 2 ^ 31) (hz : ∀ x, z (ix1 x) = 0)
    (hb : ∀ e, idx (ix2 e (0 : Fin 1)) = BitVec.ofNat 32 (b e).val) (hu : ∀ e, upd (ix1 e) = ((f e : ℝ) : EReal)) (x : Fin N) :
    Ideal.hostScatterAdd (vecDims N n wf) z idx upd (ix1 x) = ((∑ e, if b e = x then f e else 0 : ℝ) : EReal) := by
  unfold Ideal.hostScatterAdd
  rw [hz, zero_add, Finset.sum_filter, sum_ix1, ← rsum]
  refine Finset.sum_congr rfl fun e _ => ?_
  by_cases h : b e = x
  · rw [if_pos h, if_pos ((lands wf idx e (b e) hN (hb e) x).2 h), hu]
  · rw [if_neg h, if_neg fun h' => h ((lands wf idx e (b e) hN (hb e) x).1 h'), rzero]
theorem sum_fibres (f : Fin n → ℝ) (b : Fin n → Fin N) : ∑ x, ∑ e, (if b e = x then f e else 0) = ∑ e, f e := by
  rw [Finset.sum_comm]
  exact Finset.sum_congr rfl fun e _ => by rw [Finset.sum_ite_eq, if_pos (Finset.mem_univ _)]
end

end Cert.Stress

namespace Cert.ReferenceIdeal.Hand

open Cert.ReferenceIdeal Cert.ReferenceIdeal.Gen Cert.Stress
open Idealize.ShloMosaic Idealize.ShloMosaic.TcCoe Idealize.SL.Sem

/-- The mean over the graphs of a thousand times a graph's sum over its number of edges. -/
def mean (s k : FVec Ideal S500 .f32) : FVec Ideal S_ .f32 :=
  Host.divf (Host.reduceAdd (Host.divf (mulf s (broadcastInDim S500 ![] bcast_S_S500 (constant S_ .f32 0x447A0000#32))) (subf (mulf k k) k)) (constant S_ .f32 0x00000000#32) reducesTo_S500_S_d0 h_S_) (constant S_ .f32 0x43FA0000#32)
theorem mean_at (s k : FVec Ideal S500 .f32) : mean s k ix0
    = Ideal.div (∑ g : Fin 500, Ideal.div (s (ix1 g) * Ideal.ofBits .f32 0x447A0000#32) (k (ix1 g) * k (ix1 g) - k (ix1 g))) (Ideal.ofBits .f32 0x43FA0000#32) := by
  pointwise [mean]
theorem mean_real (s k : FVec Ideal S500 .f32) (f : Fin 500 → ℝ) (hs : ∀ g, s (ix1 g) = ((f g : ℝ) : EReal)) (hk : ∀ g, k (ix1 g) = ((100 : ℝ) : EReal)) :
    mean s k ix0 = (((∑ g, f g) * 1000 / 9900 / 500 : ℝ) : EReal) := by
  rw [mean_at, lit_1000, lit_500, Finset.sum_mul, Finset.sum_div, ← rdiv _ (by norm_num : (500 : ℝ) ≠ 0), ← rsum]
  refine congrArg (fun t => Ideal.div t _) (Finset.sum_congr rfl fun g _ => ?_)
  rw [hs, hk, rmul, rmul, rsub, rdiv _ (by norm_num : (100 * 100 - 100 : ℝ) ≠ 0)]
  norm_num

theorem col_at (v : IVec S4950000 32) (e : Fin 4950000) : broadcastInDim S4950000x1 ![0] bcast_S4950000_S4950000x1_0 v (ix2 e 0) = v (ix1 e) := by
  pointwise
theorem zeros_at (g : Fin 500) : broadcastInDim (α := EReal) S500 ![] bcast_S_S500 (constant (F := Ideal) S_ .f32 0x00000000#32) (ix1 g) = 0 := by
  pointwise
theorem sq_at (x : FVec Ideal S4950000 .f32) (e : Fin 4950000) : mulf x x (ix1 e) = x (ix1 e) * x (ix1 e) := rfl

/-- The index the sum per graph is scattered by. -/
def sumIdx (b : IVec S50000 32) (x : IVec S4950000 32) : IVec S4950000x1 32 :=
  broadcastInDim S4950000x1 ![0] bcast_S4950000_S4950000x1_0 (Host.gather gather_S50000_S4950000x1_S4950000_n_0_n_n_0_1_1 b (edgeIdx x))
theorem sumIdx_at (b : IVec S50000 32) (x : IVec S4950000 32) (e : Fin 4950000) (n : Fin 50000) (h : x (ix1 e) = BitVec.ofNat 32 n.val) :
    sumIdx b x (ix2 e 0) = b (ix1 n) := by
  unfold sumIdx
  rw [col_at]
  exact Routing.gather_take1 gather_S50000_S4950000x1_S4950000_n_0_n_n_0_1_1 rfl rfl rfl rfl b (edgeIdx x) e n (edgeIdx_at _ _ _ h) (by norm_num)

/-- The sum per graph. -/
def perGraph (b : IVec S50000 32) (x : IVec S4950000 32) (r : FVec Ideal S4950000 .f32) : FVec Ideal S500 .f32 :=
  Host.scatterAdd scatter_S500_S4950000x1_S4950000_n_0_0_1 (broadcastInDim S500 ![] bcast_S_S500 (constant S_ .f32 0x00000000#32)) (sumIdx b x) (mulf r r)

theorem scatter_eq : scatter_S500_S4950000x1_S4950000_n_0_0_1 = vecDims 500 4950000 scatter_S500_S4950000x1_S4950000_n_0_0_1_wf := rfl
theorem hostScatter_eq (D : ScatterDims S500 S4950000x1 S4950000) (z : FVec Ideal S500 .f32) (idx : IVec S4950000x1 32) (u : FVec Ideal S4950000 .f32) :
    Host.scatterAdd D z idx u = Ideal.hostScatterAdd D z idx u := rfl

/-- The reference's result of the launch contents. -/
def res (V0 : Valuation τ sig (Elt Ideal)) : FVec Ideal S_ .f32 :=
  mean (perGraph (V0 (Proc.devRef .tc main_arg5)) (Value.res_main_v185 V0) (Value.res_main_v182 V0)) (Value.res_main_v196 V0)

section
variable (V0 : Valuation τ sig (Elt Ideal)) (ang : Fin 500 → Fin 2 → ℝ) (pos : Fin 50000 → Fin 3 → ℝ) (d : Fin 4950000 → ℝ)
  (h0 : ∀ g k, (V0 (Proc.devRef .tc main_arg0) : Vec Ideal S500x2 .f32) (ix2 g k) = ((ang g k : ℝ) : EReal))
  (h1 : ∀ n k, (V0 (Proc.devRef .tc main_arg1) : Vec Ideal S50000x3 .f32) (ix2 n k) = ((pos n k : ℝ) : EReal))
  (h2 : ∀ g, (V0 (Proc.devRef .tc main_arg2) : IVec S500 32) (ix1 g) = 100#32)
  (h3s : ∀ g i k, (V0 (Proc.devRef .tc main_arg3) : IVec S2x4950000 32) (ix2 0 (edgeAt g i k)) = BitVec.ofNat 32 (nodeAt g i).val)
  (h3d : ∀ g i k, (V0 (Proc.devRef .tc main_arg3) : IVec S2x4950000 32) (ix2 1 (edgeAt g i k)) = BitVec.ofNat 32 (nodeAt g (i.succAbove k)).val)
  (h4 : ∀ e, (V0 (Proc.devRef .tc main_arg4) : Vec Ideal S4950000x4 .f32) (ix2 e 0) = ((d e : ℝ) : EReal))
  (h5 : ∀ g i, (V0 (Proc.devRef .tc main_arg5) : IVec S50000 32) (ix1 (nodeAt g i)) = BitVec.ofNat 32 g.val)
  (hd : ∀ e, 0 < d e) (hA : allSq ang pos d ≠ 0)

include h0 h1 h3s h3d h4 h5 hd hA in
theorem perGraph_at (g : Fin 500) : perGraph (V0 (Proc.devRef .tc main_arg5)) (Value.res_main_v185 V0) (Value.res_main_v182 V0) (ix1 g)
    = ((∑ e, if graphOf e = g then eErr ang pos d e else 0 : ℝ) : EReal) := by
  have hi : ∀ e, sumIdx (V0 (Proc.devRef .tc main_arg5)) (Value.res_main_v185 V0) (ix2 e 0) = BitVec.ofNat 32 (graphOf e).val := fun e => by
    obtain ⟨g, i, k, rfl⟩ := edge_cases e
    rw [sumIdx_at _ _ _ _ ((v185_at V0 _).trans (h3s g i k)), h5]
    rw [graphOf_at]
  have hu : ∀ e, mulf (F := Ideal) (φ := .f32) (Value.res_main_v182 V0) (Value.res_main_v182 V0) (ix1 e) = ((eErr ang pos d e : ℝ) : EReal) := fun e => by
    obtain ⟨r, hr, hq⟩ := v182_at V0 ang pos d h0 h1 h3s h3d h4 h5 hd hA e
    rw [sq_at, hr, rmul, hq]
  unfold perGraph
  rw [hostScatter_eq, scatter_eq]
  have X := fun z idx upd => scattered (N := 500) (n := 4950000) scatter_S500_S4950000x1_S4950000_n_0_0_1_wf z idx upd (eErr ang pos d) graphOf (by norm_num)
  have Y := X (broadcastInDim (α := EReal) S500 ![] bcast_S_S500 (constant (F := Ideal) S_ .f32 0x00000000#32)) (sumIdx (V0 (Proc.devRef .tc main_arg5)) (Value.res_main_v185 V0)) (mulf (F := Ideal) (φ := .f32) (Value.res_main_v182 V0) (Value.res_main_v182 V0)) zeros_at hi
  have Z := Y hu g
  exact Z
include h2 in
theorem v196_at (g : Fin 500) : (Value.res_main_v196 V0 : FVec Ideal S500 .f32) (ix1 g) = ((100 : ℝ) : EReal) := by
  show FloatOps.sitofp (F := Ideal) .f32 ((V0 (Proc.devRef .tc main_arg2) : IVec S500 32) (ix1 g)) = _
  rw [h2]
  show (((100#32 : BitVec 32).toInt : ℝ) : EReal) = _
  rw [show (100#32 : BitVec 32).toInt = 100 from by decide]; norm_num

include h0 h1 h2 h3s h3d h4 h5 hd hA
/-- The reference's result in terms of the two sums. -/
theorem res_at : res V0 ix0 = ((stress (allSq ang pos d) (allQuo ang pos d) : ℝ) : EReal) := by
  unfold res
  rw [mean_real _ _ _ (perGraph_at V0 ang pos d h0 h1 h3s h3d h4 h5 hd hA) (v196_at V0 h2), sum_fibres, sum_err]
end

end Cert.ReferenceIdeal.Hand

end
-- ==== Proof.PreRead.lean ====
module

public import proofs.«01_k».proof.Proof.PreFacts
public import proofs.«01_k».proof.Proof.RefSum

@[expose] public section

set_option maxRecDepth 16384

noncomputable section

namespace Cert.Pre_regular_scene.Hand

open Cert.Pre_regular_scene Cert.Pre_regular_scene.Facts Cert.Stress
open Idealize.ShloMosaic

/-- The predicate's shape relations, wherever it is read. -/
local instance : Cert.Pre_regular_scene.Facts := facts

section
variable (a0 : FVec Ideal S500x2 .f32) (a1 : FVec Ideal S50000x3 .f32) (a2 : IVec S500 32) (a3 : IVec S2x4950000 32) (a4 : FVec Ideal S4950000x4 .f32) (a5 : IVec S50000 32)

theorem angles_eq : (fn (F := Ideal) a0 a1 a2 a3 a4 a5).1 = cmpf (F := Ideal) (φ := .f32) .olt (Host.absf a0) (broadcastInDim S500x2 ![] bcast_S_S500x2 (constant S_ .f32 0x7F800000#32)) := rfl
theorem places_eq : (fn (F := Ideal) a0 a1 a2 a3 a4 a5).2.1 = cmpf (F := Ideal) (φ := .f32) .olt (Host.absf a1) (broadcastInDim S50000x3 ![] bcast_S_S50000x3 (constant S_ .f32 0x7F800000#32)) := rfl
theorem counts_eq : (fn (F := Ideal) a0 a1 a2 a3 a4 a5).2.2.1 = cmpi .eq a2 (broadcastInDim S500 ![] bcast_S_S500 (constantI S_ 32 100#32)) := rfl

/-- An edge's place among its graph's, its first node and its place among that node's. -/
def within : IVec S4950000 32 := Host.remsi (iotaInDim S4950000 32 0) (broadcastInDim S4950000 ![] bcast_S_S4950000 (constantI S_ 32 9900#32))
def first : IVec S4950000 32 := Host.divsi within (broadcastInDim S4950000 ![] bcast_S_S4950000 (constantI S_ 32 99#32))
def place : IVec S4950000 32 := Host.remsi within (broadcastInDim S4950000 ![] bcast_S_S4950000 (constantI S_ 32 99#32))
def base : IVec S4950000 32 := muli (Host.divsi (iotaInDim S4950000 32 0) (broadcastInDim S4950000 ![] bcast_S_S4950000 (constantI S_ 32 9900#32))) (broadcastInDim S4950000 ![] bcast_S_S4950000 (constantI S_ 32 100#32))
def second : IVec S4950000 32 := select (cmpi .slt place first) place (addi place (broadcastInDim S4950000 ![] bcast_S_S4950000 (constantI S_ 32 1#32)))

theorem src_eq : (fn (F := Ideal) a0 a1 a2 a3 a4 a5).2.2.2.1
    = cmpi .eq (shapeCast S4950000 (extractStridedSlice S1x4950000 ![0, 0] a3 slices_S2x4950000_S1x4950000_0_0) shapeCasts_S1x4950000_S4950000) (addi base first) := rfl
theorem dst_eq : (fn (F := Ideal) a0 a1 a2 a3 a4 a5).2.2.2.2.1
    = cmpi .eq (shapeCast S4950000 (extractStridedSlice S1x4950000 ![1, 0] a3 slices_S2x4950000_S1x4950000_1_0) shapeCasts_S1x4950000_S4950000) (addi base second) := rfl
theorem dist_eq : (fn (F := Ideal) a0 a1 a2 a3 a4 a5).2.2.2.2.2.1
    = andi (cmpf (F := Ideal) (φ := .f32) .ogt (shapeCast S4950000 (extractStridedSlice S4950000x1 ![0, 0] a4 slices_S4950000x4_S4950000x1_0_0) shapeCasts_S4950000x1_S4950000) (broadcastInDim S4950000 ![] bcast_S_S4950000 (constant S_ .f32 0x00000000#32)))
        (cmpf (F := Ideal) (φ := .f32) .olt (shapeCast S4950000 (extractStridedSlice S4950000x1 ![0, 0] a4 slices_S4950000x4_S4950000x1_0_0) shapeCasts_S4950000x1_S4950000) (broadcastInDim S4950000 ![] bcast_S_S4950000 (constant S_ .f32 0x7F800000#32))) := rfl
theorem graph_eq : (fn (F := Ideal) a0 a1 a2 a3 a4 a5).2.2.2.2.2.2.1
    = cmpi .eq a5 (Host.divsi (iotaInDim S50000 32 0) (broadcastInDim S50000 ![] bcast_S_S50000 (constantI S_ 32 100#32))) := rfl

/-- The screen before its shift. -/
def screen (R : FVec Ideal S500x3x3 .f32) : FVec Ideal S50000x2 .f32 :=
  Host.reduceAdd (mulf (broadcastInDim S50000x3x2 ![0, 1, 2] bcast_S50000x3x1_S50000x3x2_0_1_2 (broadcastInDim S50000x3x1 ![0, 1] bcast_S50000x3_S50000x3x1_0_1 a1))
    (extractStridedSlice S50000x3x2 ![0, 0, 0] (Host.gather gather_S500x3x3_S50000x1_S50000x3x3_12_0_n_n_0_1_133 R (Cert.ReferenceIdeal.Hand.graphIdx a5)) slices_S50000x3x3_S50000x3x2_0_0_0))
    (constant S_ .f32 0x00000000#32) reducesTo_S50000x3x2_S50000x2_d1 h_S_
end

/-- Whether some edge's two nodes stand apart on the screen of the cameras `R`. -/
def apart (a1 : FVec Ideal S50000x3 .f32) (a3 : IVec S2x4950000 32) (a5 : IVec S50000 32) (R : FVec Ideal S500x3x3 .f32) : IVec S_ 1 :=
  Host.reduce IntOp.ori (cmpf (F := Ideal) (φ := .f32) .une
      (Host.gather gather_S50000x2_S4950000x1_S4950000x2_1_0_n_n_0_1_12 (screen a1 a5 R)
        (Cert.ReferenceIdeal.Hand.edgeIdx (shapeCast S4950000 (extractStridedSlice S1x4950000 ![0, 0] a3 slices_S2x4950000_S1x4950000_0_0) shapeCasts_S1x4950000_S4950000)))
      (Host.gather gather_S50000x2_S4950000x1_S4950000x2_1_0_n_n_0_1_12 (screen a1 a5 R)
        (Cert.ReferenceIdeal.Hand.edgeIdx (shapeCast S4950000 (extractStridedSlice S1x4950000 ![1, 0] a3 slices_S2x4950000_S1x4950000_1_0) shapeCasts_S1x4950000_S4950000))))
    (constantI S_ 1 0#1) reducesTo_S4950000x2_S_d0_1 h_S_
/-- The three coordinates of a batch of vectors, and their assembly. -/
def part0 (u : FVec Ideal S500x3 .f32) : FVec Ideal S500 .f32 := shapeCast S500 (extractStridedSlice S500x1 ![0, 0] u slices_S500x3_S500x1_0_0) shapeCasts_S500x1_S500
def part1 (u : FVec Ideal S500x3 .f32) : FVec Ideal S500 .f32 := shapeCast S500 (extractStridedSlice S500x1 ![0, 1] u slices_S500x3_S500x1_0_1) shapeCasts_S500x1_S500
def part2 (u : FVec Ideal S500x3 .f32) : FVec Ideal S500 .f32 := shapeCast S500 (extractStridedSlice S500x1 ![0, 2] u slices_S500x3_S500x1_0_2) shapeCasts_S500x1_S500
def whole (a b c : FVec Ideal S500 .f32) : FVec Ideal S500x3 .f32 :=
  concatenate S500x3 1 [⟨S500x1, broadcastInDim S500x1 ![0] bcast_S500_S500x1_0 a⟩, ⟨S500x1, broadcastInDim S500x1 ![0] bcast_S500_S500x1_0 b⟩, ⟨S500x1, broadcastInDim S500x1 ![0] bcast_S500_S500x1_0 c⟩] concatenates_S500x1_S500x1_S500x1_S500x3_d1
/-- A vector over its norm, the norm kept from falling too low. -/
def unit (u : FVec Ideal S500x3 .f32) : FVec Ideal S500x3 .f32 :=
  Host.divf (F := Ideal) (φ := .f32) u (broadcastInDim S500x3 ![0, 1] bcast_S500x1_S500x3_0_1 (maximumf (F := Ideal) (φ := .f32) (fn_norm (F := Ideal) u) (broadcastInDim S500x1 ![] bcast_S_S500x1 (constant S_ .f32 0x3727C5AC#32))))
/-- The cross product. -/
def cross (u v : FVec Ideal S500x3 .f32) : FVec Ideal S500x3 .f32 :=
  whole (subf (F := Ideal) (φ := .f32) (mulf (part1 u) (part2 v)) (mulf (part2 u) (part1 v)))
    (subf (F := Ideal) (φ := .f32) (mulf (part2 u) (part0 v)) (mulf (part0 u) (part2 v)))
    (subf (F := Ideal) (φ := .f32) (mulf (part0 u) (part1 v)) (mulf (part1 u) (part0 v)))
/-- The cameras' axes from the viewing axis and the first, given the cross product of the two. -/
def axes3 (z x w : FVec Ideal S500x3 .f32) : FVec Ideal S500x3x3 .f32 :=
  transpose S500x3x3 [0, 2, 1] (concatenate S500x3x3 1 [⟨S500x1x3, broadcastInDim S500x1x3 ![0, 2] bcast_S500x3_S500x1x3_0_2 x⟩, ⟨S500x1x3, broadcastInDim S500x1x3 ![0, 2] bcast_S500x3_S500x1x3_0_2 (unit w)⟩, ⟨S500x1x3, broadcastInDim S500x1x3 ![0, 2] bcast_S500x3_S500x1x3_0_2 z⟩] concatenates_S500x1x3_S500x1x3_S500x1x3_S500x3x3_d1) transposes_S500x3x3_S500x3x3_0_2_1
def axes2 (z x : FVec Ideal S500x3 .f32) : FVec Ideal S500x3x3 .f32 := axes3 z x (cross z x)
def up : FVec Ideal S500x3 .f32 := broadcastInDim S500x3 ![1] bcast_S3_S500x3_1 (fun i => FloatOps.ofBits .f32 (lit0 (S3.rowMajor i)))
def axes1 (z : FVec Ideal S500x3 .f32) : FVec Ideal S500x3x3 .f32 := axes2 z (unit (cross up z))
def angle0 (a0 : FVec Ideal S500x2 .f32) : FVec Ideal S500 .f32 := mulf (F := Ideal) (φ := .f32) (shapeCast S500 (extractStridedSlice S500x1 ![0, 0] a0 slices_S500x2_S500x1_0_0) shapeCasts_S500x1_S500) (broadcastInDim S500 ![] bcast_S_S500 (constant S_ .f32 0x3C8EFA35#32))
def angle1 (a0 : FVec Ideal S500x2 .f32) : FVec Ideal S500 .f32 := mulf (F := Ideal) (φ := .f32) (shapeCast S500 (extractStridedSlice S500x1 ![0, 1] a0 slices_S500x2_S500x1_0_1) shapeCasts_S500x1_S500) (broadcastInDim S500 ![] bcast_S_S500 (constant S_ .f32 0x3C8EFA35#32))
def axes (p q : FVec Ideal S500 .f32) : FVec Ideal S500x3x3 .f32 :=
  axes1 (unit (Host.negf (F := Ideal) (φ := .f32) (whole (mulf (F := Ideal) (φ := .f32) (Host.cos p) (Host.sin q)) (Host.sin (F := Ideal) (φ := .f32) p) (mulf (F := Ideal) (φ := .f32) (Host.cos p) (Host.cos q)))))

section
variable (a0 : FVec Ideal S500x2 .f32) (a1 : FVec Ideal S50000x3 .f32) (a2 : IVec S500 32) (a3 : IVec S2x4950000 32) (a4 : FVec Ideal S4950000x4 .f32) (a5 : IVec S50000 32)
  (v14 v22 : IVec S4950000 1) (v25 : IVec S50000 32) (v27 : FVec Ideal S4950000 .f32) (z x : FVec Ideal S500x3 .f32)

theorem last8 (b : FVec Ideal S50000x2 .f32) (c : FVec Ideal S4950000x2 .f32) (i : IVec S4950000x1 32) :
    (fn_part8 (F := Ideal) a0 a1 a2 a5 v14 v22 v25 v27 b c i).2.2.2.2.2.2.2
    = Host.reduce IntOp.ori (cmpf (F := Ideal) (φ := .f32) .une c (Host.gather gather_S50000x2_S4950000x1_S4950000x2_1_0_n_n_0_1_12 b i))
      (constantI S_ 1 0#1) reducesTo_S4950000x2_S_d0_1 h_S_ := by
  unfold fn_part8
  with_reducible rfl
theorem last7 (v151 v152 : FVec Ideal S50000x3x2 .f32) (b : FVec Ideal S50000x2 .f32) (hb : b = Host.reduceAdd (mulf (F := Ideal) (φ := .f32) v152 v151) (constant S_ .f32 0x00000000#32) reducesTo_S50000x3x2_S50000x2_d1 h_S_) :
    (fn_part7 (F := Ideal) a0 a1 a2 a3 a5 v14 v22 v25 v27 v151 v152).2.2.2.2.2.2.2
    = Host.reduce IntOp.ori (cmpf (F := Ideal) (φ := .f32) .une
        (Host.gather gather_S50000x2_S4950000x1_S4950000x2_1_0_n_n_0_1_12 b
          (Cert.ReferenceIdeal.Hand.edgeIdx (shapeCast S4950000 (extractStridedSlice S1x4950000 ![0, 0] a3 slices_S2x4950000_S1x4950000_0_0) shapeCasts_S1x4950000_S4950000)))
        (Host.gather gather_S50000x2_S4950000x1_S4950000x2_1_0_n_n_0_1_12 b
          (Cert.ReferenceIdeal.Hand.edgeIdx (shapeCast S4950000 (extractStridedSlice S1x4950000 ![1, 0] a3 slices_S2x4950000_S1x4950000_1_0) shapeCasts_S1x4950000_S4950000))))
      (constantI S_ 1 0#1) reducesTo_S4950000x2_S_d0_1 h_S_ := by
  subst hb
  exact last8 a0 a1 a2 a5 v14 v22 v25 v27 _ _ _
theorem last6 (w : FVec Ideal S500x3 .f32) (v129 v130 v131 : FVec Ideal S500x1 .f32) (hw : w = concatenate S500x3 1 [⟨S500x1, v129⟩, ⟨S500x1, v130⟩, ⟨S500x1, v131⟩] concatenates_S500x1_S500x1_S500x1_S500x3_d1) :
    (fn_part6 (F := Ideal) a0 a1 a2 a3 a5 v14 v22 v25 v27 z x v129 v130 v131).2.2.2.2.2.2.2 = apart a1 a3 a5 (axes3 z x w) := by
  rw [hw]
  exact last7 a0 a1 a2 a3 a5 v14 v22 v25 v27 _ _ _ rfl
theorem last5 (v106 : FVec Ideal S500 .f32) (v107 : FVec Ideal S500x1 .f32) :
    (fn_part5 (F := Ideal) a0 a1 a2 a3 a5 v14 v22 v25 v27 z x v106 v107).2.2.2.2.2.2.2 = apart a1 a3 a5 (axes3 z x (whole v106
      (subf (F := Ideal) (φ := .f32) (mulf (shapeCast S500 v107 shapeCasts_S500x1_S500) (part0 x)) (mulf (part0 z) (part2 x)))
      (subf (F := Ideal) (φ := .f32) (mulf (part0 z) (part1 x)) (mulf (part1 z) (part0 x))))) :=
  last6 a0 a1 a2 a3 a5 v14 v22 v25 v27 z x _ _ _ _ rfl
theorem last4 (v64 v75 v80 v82 v84 : FVec Ideal S500 .f32) :
    (fn_part4 (F := Ideal) a0 a1 a2 a3 a5 v14 v22 v25 v27 z v64 v75 v80 v82 v84).2.2.2.2.2.2.2 = apart a1 a3 a5 (axes2 z (unit (whole v64 v75 (subf (F := Ideal) (φ := .f32) v80 (mulf v82 v84))))) :=
  last5 a0 a1 a2 a3 a5 v14 v22 v25 v27 z _ _ _
theorem last3 (u : FVec Ideal S500x3 .f32) (v58 v60 : FVec Ideal S500 .f32) :
    (fn_part3 (F := Ideal) a0 a1 a2 a3 a5 v14 v22 v25 v27 u z v58 v60).2.2.2.2.2.2.2 = apart a1 a3 a5 (axes2 z (unit (whole
      (subf (F := Ideal) (φ := .f32) v58 (mulf v60 (part1 z)))
      (subf (F := Ideal) (φ := .f32) (mulf (part2 u) (part0 z)) (mulf (part0 u) (part2 z)))
      (subf (F := Ideal) (φ := .f32) (mulf (part0 u) (part1 z)) (mulf (part1 u) (part0 z)))))) :=
  last4 a0 a1 a2 a3 a5 v14 v22 v25 v27 z _ _ _ _ _
theorem last2 (p q cp sq : FVec Ideal S500 .f32) :
    (fn_part2 (F := Ideal) a0 a1 a2 a3 a5 (fun i => FloatOps.ofBits .f32 (lit0 (S3.rowMajor i))) v14 v22 v25 v27 p q cp sq).2.2.2.2.2.2.2 = apart a1 a3 a5
      (axes1 (unit (Host.negf (F := Ideal) (φ := .f32) (whole (mulf (F := Ideal) (φ := .f32) cp sq) (Host.sin (F := Ideal) (φ := .f32) p) (mulf (F := Ideal) (φ := .f32) (Host.cos p) (Host.cos q)))))) :=
  last3 a0 a1 a2 a3 a5 v14 v22 v25 v27 _ up _ _
theorem last1 (v6 v10 v16 : IVec S4950000 32) (v17 : IVec S4950000 1) :
    (fn_part1 (F := Ideal) a0 a1 a2 a3 a4 a5 (fun i => FloatOps.ofBits .f32 (lit0 (S3.rowMajor i))) v6 v10 v14 v16 v17).2.2.2.2.2.2.2 = apart a1 a3 a5 (axes (angle0 a0) (angle1 a0)) :=
  last2 a0 a1 a2 a3 a5 v14 _ _ _ _ _ _ _
theorem last0 : (fn (F := Ideal) a0 a1 a2 a3 a4 a5).2.2.2.2.2.2.2 = apart a1 a3 a5 (axes (angle0 a0) (angle1 a0)) :=
  last1 a0 a1 a2 a3 a4 a5 _ _ _ _ _
end

section
variable (V0 : Idealize.ShloMosaic.Valuation Cert.ReferenceIdeal.τ Cert.ReferenceIdeal.sig (Elt Ideal))
theorem up_eq : (Cert.ReferenceIdeal.Value.res_main_v19 V0 : FVec Ideal S500x3 .f32) = up := rfl
theorem dir_eq : (Cert.ReferenceIdeal.Value.res_main_v18 V0 : FVec Ideal S500x3 .f32) = whole (mulf (F := Ideal) (φ := .f32) (Host.cos (angle0 (V0 (Proc.devRef .tc Cert.ReferenceIdeal.main_arg0)))) (Host.sin (angle1 (V0 (Proc.devRef .tc Cert.ReferenceIdeal.main_arg0))))) (Host.sin (F := Ideal) (φ := .f32) (angle0 (V0 (Proc.devRef .tc Cert.ReferenceIdeal.main_arg0)))) (mulf (F := Ideal) (φ := .f32) (Host.cos (angle0 (V0 (Proc.devRef .tc Cert.ReferenceIdeal.main_arg0)))) (Host.cos (angle1 (V0 (Proc.devRef .tc Cert.ReferenceIdeal.main_arg0))))) := rfl
theorem z_eq : (Cert.ReferenceIdeal.Value.res_main_v25 V0 : FVec Ideal S500x3 .f32) = unit (Host.negf (F := Ideal) (φ := .f32) (Cert.ReferenceIdeal.Value.res_main_v18 V0 : FVec Ideal S500x3 .f32)) := rfl
theorem upz_eq : (Cert.ReferenceIdeal.Value.res_main_v62 V0 : FVec Ideal S500x3 .f32) = cross (Cert.ReferenceIdeal.Value.res_main_v19 V0) (Cert.ReferenceIdeal.Value.res_main_v25 V0) := rfl
theorem x_eq : (Cert.ReferenceIdeal.Value.res_main_v67 V0 : FVec Ideal S500x3 .f32) = unit (Cert.ReferenceIdeal.Value.res_main_v62 V0) := rfl
theorem zx_eq : (Cert.ReferenceIdeal.Value.res_main_v104 V0 : FVec Ideal S500x3 .f32) = cross (Cert.ReferenceIdeal.Value.res_main_v25 V0) (Cert.ReferenceIdeal.Value.res_main_v67 V0) := rfl
theorem axes_eq3 : (Cert.ReferenceIdeal.Value.res_main_v114 V0 : FVec Ideal S500x3x3 .f32) = axes3 (Cert.ReferenceIdeal.Value.res_main_v25 V0) (Cert.ReferenceIdeal.Value.res_main_v67 V0) (Cert.ReferenceIdeal.Value.res_main_v104 V0) := rfl
/-- The predicate's cameras are the reference's. -/
theorem axes_eq : axes (angle0 (V0 (Proc.devRef .tc Cert.ReferenceIdeal.main_arg0))) (angle1 (V0 (Proc.devRef .tc Cert.ReferenceIdeal.main_arg0))) = (Cert.ReferenceIdeal.Value.res_main_v114 V0 : FVec Ideal S500x3x3 .f32) := by
  rw [axes_eq3, zx_eq, x_eq, upz_eq, up_eq, z_eq, dir_eq]
  rfl
end

end Cert.Pre_regular_scene.Hand

end
-- ==== Proof.PreValue.lean ====
module

public import proofs.«01_k».proof.Proof.PreRead
public import Idealize.ShloMosaic.Lib.Routing.Words

@[expose] public section

set_option maxRecDepth 16384

noncomputable section

namespace Cert.Pre_regular_scene.Hand

open Cert.Pre_regular_scene Cert.Pre_regular_scene.Facts Cert.Stress
open Idealize.ShloMosaic

local instance : Cert.Pre_regular_scene.Facts := facts

/-! ## Comparisons read back -/

theorem lt_of_cmp {x y : EReal} (h : Ideal.cmp .olt x y = 1#1) : x < y := by
  unfold Ideal.cmp at h
  exact of_decide_eq_true ((StableHlo.Predicate.ofBool_eq_one_iff _).1 h)
theorem gt_of_cmp {x y : EReal} (h : Ideal.cmp .ogt x y = 1#1) : y < x := by
  unfold Ideal.cmp at h
  exact of_decide_eq_true ((StableHlo.Predicate.ofBool_eq_one_iff _).1 h)
theorem ne_of_cmp {x y : EReal} (h : Ideal.cmp .une x y = 1#1) : x ≠ y := by
  unfold Ideal.cmp at h
  exact of_decide_eq_true ((StableHlo.Predicate.ofBool_eq_one_iff _).1 h)
theorem ne_of_cmpf {s : Shape} (A B : FVec Ideal s .f32) (i : s.Idx) (h : cmpf (F := Ideal) (φ := .f32) .une A B i = 1#1) : A i ≠ B i := ne_of_cmp h
/-- A number whose absolute value is below the greatest is a real. -/
theorem real_of_abs {x : EReal} (h : Ideal.cmp .olt (max x (-x)) (Ideal.ofBits .f32 0x7F800000#32) = 1#1) : x = ((x.toReal : ℝ) : EReal) := by
  have h' := lt_of_cmp h
  rw [lit_top] at h'
  refine (EReal.coe_toReal ?_ ?_).symm
  · rintro rfl
    exact absurd (lt_of_le_of_lt (le_max_left _ _) h') (lt_irrefl _)
  · rintro rfl
    exact absurd (lt_of_le_of_lt (le_max_right _ _) h') (by rw [EReal.neg_bot]; exact lt_irrefl _)

/-! ## The words of an edge -/

variable (g : Fin 500) (i : Fin 100) (k : Fin 99)

theorem within_at : within (ix1 (edgeAt g i k)) = BitVec.ofNat 32 (i.val * 99 + k.val) := by
  have hg := g.isLt; have hi := i.isLt; have hk := k.isLt
  refine (show within (ix1 (edgeAt g i k)) = IntOp.remsi .host (BitVec.ofNat 32 (g.val * 9900 + i.val * 99 + k.val)) (BitVec.ofNat 32 9900) from rfl).trans ?_
  rw [Routing.remsi_word .host (by omega) (by norm_num) (by norm_num)]
  refine congrArg _ ?_
  omega
theorem first_at : first (ix1 (edgeAt g i k)) = BitVec.ofNat 32 i.val := by
  have hg := g.isLt; have hi := i.isLt; have hk := k.isLt
  refine (show first (ix1 (edgeAt g i k)) = IntOp.divsi .host (within (ix1 (edgeAt g i k))) (BitVec.ofNat 32 99) from rfl).trans ?_
  rw [within_at, Routing.divsi_word .host (by omega) (by norm_num) (by norm_num)]
  refine congrArg _ ?_
  omega
theorem place_at : place (ix1 (edgeAt g i k)) = BitVec.ofNat 32 k.val := by
  have hg := g.isLt; have hi := i.isLt; have hk := k.isLt
  refine (show place (ix1 (edgeAt g i k)) = IntOp.remsi .host (within (ix1 (edgeAt g i k))) (BitVec.ofNat 32 99) from rfl).trans ?_
  rw [within_at, Routing.remsi_word .host (by omega) (by norm_num) (by norm_num)]
  refine congrArg _ ?_
  omega
theorem base_at : base (ix1 (edgeAt g i k)) = BitVec.ofNat 32 (g.val * 100) := by
  have hg := g.isLt; have hi := i.isLt; have hk := k.isLt
  refine (show base (ix1 (edgeAt g i k)) = IntOp.divsi .host (BitVec.ofNat 32 (g.val * 9900 + i.val * 99 + k.val)) (BitVec.ofNat 32 9900) * BitVec.ofNat 32 100 from rfl).trans ?_
  rw [Routing.divsi_word .host (by omega) (by norm_num) (by norm_num), ← BitVec.ofNat_mul]
  refine congrArg _ ?_
  have : (g.val * 9900 + i.val * 99 + k.val) / 9900 = g.val := by omega
  rw [this]
theorem second_at : second (ix1 (edgeAt g i k)) = BitVec.ofNat 32 (i.succAbove k).val := by
  have hi := i.isLt; have hk := k.isLt
  refine (show second (ix1 (edgeAt g i k)) = (if IntOp.cmpi .slt (place (ix1 (edgeAt g i k))) (first (ix1 (edgeAt g i k))) = 1#1 then place (ix1 (edgeAt g i k)) else place (ix1 (edgeAt g i k)) + BitVec.ofNat 32 1) from rfl).trans ?_
  rw [place_at, first_at]
  have hs : IntOp.cmpi .slt (BitVec.ofNat 32 k.val) (BitVec.ofNat 32 i.val) = 1#1 ↔ k.val < i.val := StableHlo.Predicate.slt_ofNat_iff k.val i.val (by omega) (by omega)
  by_cases h : k.val < i.val
  · rw [if_pos (hs.2 h), Fin.succAbove_of_castSucc_lt _ _ (show k.castSucc < i from h)]
    rfl
  · rw [if_neg (fun e => h (hs.1 e)), Fin.succAbove_of_le_castSucc _ _ (show i ≤ k.castSucc from not_lt.1 h), ← BitVec.ofNat_add]
    rfl

section
variable (a0 : FVec Ideal S500x2 .f32) (a1 : FVec Ideal S50000x3 .f32) (a2 : IVec S500 32) (a3 : IVec S2x4950000 32) (a4 : FVec Ideal S4950000x4 .f32) (a5 : IVec S50000 32)

theorem angles_real (h : (fn (F := Ideal) a0 a1 a2 a3 a4 a5).1 = fun _ => 1#1) (g : Fin 500) (k : Fin 2) : a0 (ix2 g k) = (((a0 (ix2 g k)).toReal : ℝ) : EReal) :=
  real_of_abs (congrFun ((angles_eq a0 a1 a2 a3 a4 a5).symm.trans h) (ix2 g k))
theorem places_real (h : (fn (F := Ideal) a0 a1 a2 a3 a4 a5).2.1 = fun _ => 1#1) (n : Fin 50000) (k : Fin 3) : a1 (ix2 n k) = (((a1 (ix2 n k)).toReal : ℝ) : EReal) :=
  real_of_abs (congrFun ((places_eq a0 a1 a2 a3 a4 a5).symm.trans h) (ix2 n k))
theorem counts_at (h : (fn (F := Ideal) a0 a1 a2 a3 a4 a5).2.2.1 = fun _ => 1#1) (g : Fin 500) : a2 (ix1 g) = 100#32 :=
  StableHlo.Predicate.cmpi_eq_iff.1 (congrFun ((counts_eq a0 a1 a2 a3 a4 a5).symm.trans h) (ix1 g))
theorem src_at (h : (fn (F := Ideal) a0 a1 a2 a3 a4 a5).2.2.2.1 = fun _ => 1#1) : a3 (ix2 0 (edgeAt g i k)) = BitVec.ofNat 32 (nodeAt g i).val := by
  have e := StableHlo.Predicate.cmpi_eq_iff.1 (congrFun ((src_eq a0 a1 a2 a3 a4 a5).symm.trans h) (ix1 (edgeAt g i k)))
  refine (Cert.ReferenceIdeal.Hand.row0 a3 (edgeAt g i k)).symm.trans (e.trans ?_)
  refine (show addi base first (ix1 (edgeAt g i k)) = base (ix1 (edgeAt g i k)) + first (ix1 (edgeAt g i k)) from rfl).trans ?_
  rw [base_at, first_at, ← BitVec.ofNat_add]
  rfl
theorem dst_at (h : (fn (F := Ideal) a0 a1 a2 a3 a4 a5).2.2.2.2.1 = fun _ => 1#1) : a3 (ix2 1 (edgeAt g i k)) = BitVec.ofNat 32 (nodeAt g (i.succAbove k)).val := by
  have e := StableHlo.Predicate.cmpi_eq_iff.1 (congrFun ((dst_eq a0 a1 a2 a3 a4 a5).symm.trans h) (ix1 (edgeAt g i k)))
  refine (Cert.ReferenceIdeal.Hand.row1 a3 (edgeAt g i k)).symm.trans (e.trans ?_)
  refine (show addi base second (ix1 (edgeAt g i k)) = base (ix1 (edgeAt g i k)) + second (ix1 (edgeAt g i k)) from rfl).trans ?_
  rw [base_at, second_at, ← BitVec.ofNat_add]
  rfl
theorem dist_both (h : (fn (F := Ideal) a0 a1 a2 a3 a4 a5).2.2.2.2.2.1 = fun _ => 1#1) (e : Fin 4950000) : 0 < a4 (ix2 e 0) ∧ a4 (ix2 e 0) < ⊤ := by
  have q := congrFun ((dist_eq a0 a1 a2 a3 a4 a5).symm.trans h) (ix1 e)
  have r := IntOp.andi_eq_one.1 q
  have r1 := gt_of_cmp r.1
  have r2 := lt_of_cmp r.2
  refine ⟨?_, ?_⟩
  · refine lt_of_eq_of_lt ?_ (lt_of_lt_of_eq r1 (Cert.ReferenceIdeal.Hand.col0 a4 e))
    exact Ideal.ofBits_zero_f32.symm
  · refine lt_of_eq_of_lt (Cert.ReferenceIdeal.Hand.col0 a4 e).symm (lt_of_lt_of_eq r2 ?_)
    exact lit_top
theorem dist_real (h : (fn (F := Ideal) a0 a1 a2 a3 a4 a5).2.2.2.2.2.1 = fun _ => 1#1) (e : Fin 4950000) : a4 (ix2 e 0) = (((a4 (ix2 e 0)).toReal : ℝ) : EReal) :=
  (EReal.coe_toReal (dist_both a0 a1 a2 a3 a4 a5 h e).2.ne (ne_bot_of_gt (dist_both a0 a1 a2 a3 a4 a5 h e).1)).symm
theorem dist_pos (h : (fn (F := Ideal) a0 a1 a2 a3 a4 a5).2.2.2.2.2.1 = fun _ => 1#1) (e : Fin 4950000) : 0 < (a4 (ix2 e 0)).toReal :=
  EReal.toReal_pos (dist_both a0 a1 a2 a3 a4 a5 h e).1 (dist_both a0 a1 a2 a3 a4 a5 h e).2.ne
theorem graph_at (h : (fn (F := Ideal) a0 a1 a2 a3 a4 a5).2.2.2.2.2.2.1 = fun _ => 1#1) : a5 (ix1 (nodeAt g i)) = BitVec.ofNat 32 g.val := by
  have hg := g.isLt; have hi := i.isLt
  have e := StableHlo.Predicate.cmpi_eq_iff.1 (congrFun ((graph_eq a0 a1 a2 a3 a4 a5).symm.trans h) (ix1 (nodeAt g i)))
  refine e.trans ?_
  refine (show _ = IntOp.divsi .host (BitVec.ofNat 32 (g.val * 100 + i.val)) (BitVec.ofNat 32 100) from rfl).trans ?_
  rw [Routing.divsi_word .host (by omega) (by norm_num) (by norm_num)]
  refine congrArg _ ?_
  omega
end

/-! ## The nodes that stand apart -/

/-- A fold by or that is one has a one among its elements or at its start. -/
theorem foldl_or {ι : Type} (f : ι → BitVec 1) : ∀ (l : List ι) (z : BitVec 1), l.foldl (fun a j => IntOp.ori a (f j)) z = 1#1 → z = 1#1 ∨ ∃ j, f j = 1#1
  | [], z, h => Or.inl h
  | a :: l, z, h => by
    rcases foldl_or f l _ h with h' | h'
    · have key : ∀ p q : BitVec 1, IntOp.ori p q = 1#1 → p = 1#1 ∨ q = 1#1 := by decide
      rcases key _ _ h' with h1 | h1
      exacts [Or.inl h1, Or.inr ⟨a, h1⟩]
    · exact Or.inr h'
theorem any_of {s t u : Shape} {axes : List (Fin s.rank)} (x : s.Idx → BitVec 1) (h : s.ReducesTo axes t) (hu : 0 < u.numel) (j : t.Idx)
    (e : Host.reduce IntOp.ori x (constantI u 1 0#1) h hu j = 1#1) : ∃ n, x n = 1#1 := by
  rw [Host.reduce_eq_foldl] at e
  rcases foldl_or x _ _ e with h' | h'
  · exact absurd (show (0#1 : BitVec 1) = 1#1 from h') (by decide)
  · exact h'

/-- A node's place on the screen before its shift. -/
theorem screen_sum (x y : FVec Ideal S50000x3x2 .f32) (n : Fin 50000) (c : Fin 2) :
    Host.reduceAdd (F := Ideal) (mulf (F := Ideal) (φ := .f32) x y) (constant S_ .f32 0x00000000#32) reducesTo_S50000x3x2_S50000x2_d1 h_S_ (ix2 n c)
      = x (ix3 n 0 c) * y (ix3 n 0 c) + x (ix3 n 1 c) * y (ix3 n 1 c) + x (ix3 n 2 c) * y (ix3 n 2 c) := by
  pointwise
  rw [Fin.sum_univ_three]
theorem spread_at (x : FVec Ideal S50000x3 .f32) (n : Fin 50000) (j : Fin 3) (c : Fin 2) :
    (broadcastInDim S50000x3x2 ![0, 1, 2] bcast_S50000x3x1_S50000x3x2_0_1_2 (broadcastInDim S50000x3x1 ![0, 1] bcast_S50000x3_S50000x3x1_0_1 x) : FVec Ideal S50000x3x2 .f32) (ix3 n j c) = x (ix2 n j) := by
  pointwise
theorem cut0 (x : FVec Ideal S50000x3x3 .f32) (n : Fin 50000) (j : Fin 3) :
    (extractStridedSlice S50000x3x2 ![0, 0, 0] x slices_S50000x3x3_S50000x3x2_0_0_0 : FVec Ideal S50000x3x2 .f32) (ix3 n j 0) = x (ix3 n j 0) := by
  pointwise
theorem cut1 (x : FVec Ideal S50000x3x3 .f32) (n : Fin 50000) (j : Fin 3) :
    (extractStridedSlice S50000x3x2 ![0, 0, 0] x slices_S50000x3x3_S50000x3x2_0_0_0 : FVec Ideal S50000x3x2 .f32) (ix3 n j 1) = x (ix3 n j 1) := by
  pointwise
theorem turned_at (R : FVec Ideal S500x3x3 .f32) (a5 : IVec S50000 32) (n : Fin 50000) (g : Fin 500) (j l : Fin 3) (h : a5 (ix1 n) = BitVec.ofNat 32 g.val) :
    Host.gather gather_S500x3x3_S50000x1_S50000x3x3_12_0_n_n_0_1_133 R (Cert.ReferenceIdeal.Hand.graphIdx a5) (ix3 n j l) = R (ix3 g j l) :=
  gather_mat gather_S500x3x3_S50000x1_S50000x3x3_12_0_n_n_0_1_133_wf R _ n j l g (Cert.ReferenceIdeal.Hand.graphIdx_at _ _ _ h) (by norm_num)
theorem screen0 (a1 : FVec Ideal S50000x3 .f32) (a5 : IVec S50000 32) (R : FVec Ideal S500x3x3 .f32) (n : Fin 50000) (g : Fin 500) (h : a5 (ix1 n) = BitVec.ofNat 32 g.val) :
    screen a1 a5 R (ix2 n 0) = a1 (ix2 n 0) * R (ix3 g 0 0) + a1 (ix2 n 1) * R (ix3 g 1 0) + a1 (ix2 n 2) * R (ix3 g 2 0) := by
  unfold screen
  rw [screen_sum, spread_at, spread_at, spread_at, cut0, cut0, cut0, turned_at R a5 n g 0 0 h, turned_at R a5 n g 1 0 h, turned_at R a5 n g 2 0 h]
theorem screen1 (a1 : FVec Ideal S50000x3 .f32) (a5 : IVec S50000 32) (R : FVec Ideal S500x3x3 .f32) (n : Fin 50000) (g : Fin 500) (h : a5 (ix1 n) = BitVec.ofNat 32 g.val) :
    screen a1 a5 R (ix2 n 1) = a1 (ix2 n 0) * R (ix3 g 0 1) + a1 (ix2 n 1) * R (ix3 g 1 1) + a1 (ix2 n 2) * R (ix3 g 2 1) := by
  unfold screen
  rw [screen_sum, spread_at, spread_at, spread_at, cut1, cut1, cut1, turned_at R a5 n g 0 1 h, turned_at R a5 n g 1 1 h, turned_at R a5 n g 2 1 h]
theorem row0 (x : IVec S2x4950000 32) (e : Fin 4950000) :
    shapeCast S4950000 (extractStridedSlice S1x4950000 ![0, 0] x slices_S2x4950000_S1x4950000_0_0) shapeCasts_S1x4950000_S4950000 (ix1 e) = x (ix2 0 e) :=
  Cert.ReferenceIdeal.Hand.row0 x e
theorem row1 (x : IVec S2x4950000 32) (e : Fin 4950000) :
    shapeCast S4950000 (extractStridedSlice S1x4950000 ![1, 0] x slices_S2x4950000_S1x4950000_1_0) shapeCasts_S1x4950000_S4950000 (ix1 e) = x (ix2 1 e) :=
  Cert.ReferenceIdeal.Hand.row1 x e
/-- The place of the node an edge's word names. -/
theorem ends_at (b : IVec S4950000 32) (s : FVec Ideal S50000x2 .f32) (e : Fin 4950000) (c : Fin 2) (n : Fin 50000) (h : b (ix1 e) = BitVec.ofNat 32 n.val) :
    Host.gather gather_S50000x2_S4950000x1_S4950000x2_1_0_n_n_0_1_12 s (Cert.ReferenceIdeal.Hand.edgeIdx b) (ix2 e c) = s (ix2 n c) :=
  Routing.gather_row gather_S50000x2_S4950000x1_S4950000x2_1_0_n_n_0_1_12 rfl rfl rfl rfl rfl s _ e c n (Cert.ReferenceIdeal.Hand.edgeIdx_at _ _ _ h) (by norm_num)
/-- Where some edge's ends differ, there is such an edge. -/
theorem apart_some (a1 : FVec Ideal S50000x3 .f32) (a3 : IVec S2x4950000 32) (a5 : IVec S50000 32) (R : FVec Ideal S500x3x3 .f32) (h : apart a1 a3 a5 R = fun _ => 1#1)
    (hs : ∀ g i k, a3 (ix2 0 (edgeAt g i k)) = BitVec.ofNat 32 (nodeAt g i).val) (hd : ∀ g i k, a3 (ix2 1 (edgeAt g i k)) = BitVec.ofNat 32 (nodeAt g (i.succAbove k)).val) :
    ∃ g i k c, screen a1 a5 R (ix2 (nodeAt g i) c) ≠ screen a1 a5 R (ix2 (nodeAt g (i.succAbove k)) c) := by
  have h0 := congrFun h ix0
  unfold apart at h0
  obtain ⟨n, hn⟩ := any_of _ _ _ ix0 h0
  obtain ⟨e, c, rfl⟩ : ∃ (e : Fin 4950000) (c : Fin 2), n = ix2 e c := ⟨n 0, n 1, funext fun a => match a with | ⟨0, _⟩ => rfl | ⟨1, _⟩ => rfl⟩
  obtain ⟨g, i, k, rfl⟩ := edge_cases e
  refine ⟨g, i, k, c, ?_⟩
  have hne := ne_of_cmpf _ _ _ hn
  intro same
  have h1 := ends_at _ (screen a1 a5 R) (edgeAt g i k) c (nodeAt g i) ((row0 a3 _).trans (hs g i k))
  have h2 := ends_at _ (screen a1 a5 R) (edgeAt g i k) c (nodeAt g (i.succAbove k)) ((row1 a3 _).trans (hd g i k))
  exact hne (h1.trans (same.trans h2.symm))

end Cert.Pre_regular_scene.Hand

end
-- ==== Proof.Apart.lean ====
module

public import proofs.«01_k».proof.Proof.PreValue

@[expose] public section

set_option maxRecDepth 16384

noncomputable section

namespace Cert.Stress

/-- A sum of squares with a term that is not zero. -/
theorem sum_squares_ne {n : ℕ} (f : Fin n → ℝ) (e : Fin n) (h : f e ≠ 0) : ∑ j, f j * f j ≠ 0 :=
  (Finset.sum_pos' (fun j _ => mul_self_nonneg (f j)) ⟨e, Finset.mem_univ e, mul_self_pos.2 h⟩).ne'

/-- Where one edge's nodes stand apart on the screen, the sum of the squares is not zero. -/
theorem allSq_ne (ang : Fin 500 → Fin 2 → ℝ) (pos : Fin 50000 → Fin 3 → ℝ) (d : Fin 4950000 → ℝ) (hd : ∀ e, 0 < d e) (g : Fin 500) (i : Fin 100) (k : Fin 99)
    (h : sX ang pos g i ≠ sX ang pos g (i.succAbove k) ∨ sY ang pos g i ≠ sY ang pos g (i.succAbove k)) : allSq ang pos d ≠ 0 := by
  have hp : 0 < eGap ang pos (edgeAt g i k) := by
    rw [eGap_at]
    refine Real.sqrt_pos.2 ?_
    rcases h with h | h
    · exact add_pos_of_pos_of_nonneg (mul_self_pos.2 (sub_ne_zero.2 h)) (mul_self_nonneg _)
    · exact add_pos_of_nonneg_of_pos (mul_self_nonneg _) (mul_self_pos.2 (sub_ne_zero.2 h))
  rw [← allSq_eq]
  have hq := (div_pos hp (hd (edgeAt g i k))).ne'
  exact sum_squares_ne (fun e => eGap ang pos e / d e) (edgeAt g i k) hq

end Cert.Stress

namespace Cert.Pre_regular_scene.Hand

open Cert.Stress
open Cert.ReferenceIdeal hiding Facts
open Idealize.ShloMosaic Idealize.ShloMosaic.TcCoe Idealize.SL.Sem

local instance : Cert.Pre_regular_scene.Facts := facts

section
variable (V0 : Valuation τ sig (Elt Ideal)) (ang : Fin 500 → Fin 2 → ℝ) (pos : Fin 50000 → Fin 3 → ℝ) (d : Fin 4950000 → ℝ)
  (h0 : ∀ g k, (V0 (Proc.devRef .tc main_arg0) : Vec Ideal S500x2 .f32) (ix2 g k) = ((ang g k : ℝ) : EReal))
  (h1 : ∀ n k, (V0 (Proc.devRef .tc main_arg1) : Vec Ideal S50000x3 .f32) (ix2 n k) = ((pos n k : ℝ) : EReal))
  (h3s : ∀ g i k, (V0 (Proc.devRef .tc main_arg3) : IVec S2x4950000 32) (ix2 0 (edgeAt g i k)) = BitVec.ofNat 32 (nodeAt g i).val)
  (h3d : ∀ g i k, (V0 (Proc.devRef .tc main_arg3) : IVec S2x4950000 32) (ix2 1 (edgeAt g i k)) = BitVec.ofNat 32 (nodeAt g (i.succAbove k)).val)
  (h5 : ∀ g i, (V0 (Proc.devRef .tc main_arg5) : IVec S50000 32) (ix1 (nodeAt g i)) = BitVec.ofNat 32 g.val)

include h0 h1 h5 in
/-- The predicate's first screen coordinate is the scene's, short of the graph's shift. -/
theorem screen0_real (g : Fin 500) (i : Fin 100) : screen (V0 (Proc.devRef .tc main_arg1)) (V0 (Proc.devRef .tc main_arg5)) (Value.res_main_v114 V0) (ix2 (nodeAt g i) 0)
    = ((sX ang pos g i - t0 (ang g 0) (ang g 1) : ℝ) : EReal) := by
  refine (screen0 _ _ _ (nodeAt g i) g (h5 g i)).trans ?_
  rw [ReferenceIdeal.Hand.rR00 V0 ang h0, ReferenceIdeal.Hand.rR10 V0 ang h0, ReferenceIdeal.Hand.rR20 V0 ang h0, h1, h1, h1]
  simp only [rmul, radd]
  refine congrArg _ ?_
  unfold sX scrX
  ring
include h0 h1 h5 in
/-- The same of the second coordinate. -/
theorem screen1_real (g : Fin 500) (i : Fin 100) : screen (V0 (Proc.devRef .tc main_arg1)) (V0 (Proc.devRef .tc main_arg5)) (Value.res_main_v114 V0) (ix2 (nodeAt g i) 1)
    = ((sY ang pos g i - t1 (ang g 0) (ang g 1) : ℝ) : EReal) := by
  refine (screen1 _ _ _ (nodeAt g i) g (h5 g i)).trans ?_
  rw [ReferenceIdeal.Hand.rR01 V0 ang h0, ReferenceIdeal.Hand.rR11 V0 ang h0, ReferenceIdeal.Hand.rR21 V0 ang h0, h1, h1, h1]
  simp only [rmul, radd]
  refine congrArg _ ?_
  unfold sY scrY
  ring
include h0 h1 h3s h3d h5 in
/-- Where the predicate finds two nodes apart, the sum of the squares is not zero. -/
theorem spread (hd : ∀ e, 0 < d e)
    (h : apart (V0 (Proc.devRef .tc main_arg1)) (V0 (Proc.devRef .tc main_arg3)) (V0 (Proc.devRef .tc main_arg5)) (Value.res_main_v114 V0) = fun _ => 1#1) :
    allSq ang pos d ≠ 0 := by
  obtain ⟨g, i, k, c, hne⟩ := apart_some _ _ _ _ h h3s h3d
  refine allSq_ne ang pos d hd g i k ?_
  rcases (show ∀ c : Fin 2, c = 0 ∨ c = 1 by decide) c with rfl | rfl
  · refine Or.inl fun e => hne ?_
    have p := screen0_real V0 ang pos h0 h1 h5 g i
    have q := screen0_real V0 ang pos h0 h1 h5 g (i.succAbove k)
    rw [e] at p
    exact p.trans q.symm
  · refine Or.inr fun e => hne ?_
    have p := screen1_real V0 ang pos h0 h1 h5 g i
    have q := screen1_real V0 ang pos h0 h1 h5 g (i.succAbove k)
    rw [e] at p
    exact p.trans q.symm
end

end Cert.Pre_regular_scene.Hand

end
-- ==== Proof.BlockCam.lean ====
module

public import proofs.«01_k».proof.Proof.BodyI
public import proofs.«01_k».proof.Proof.Scene

@[expose] public section

set_option maxRecDepth 16384

noncomputable section

namespace Cert.KernelIdeal.Hand

open Cert.KernelIdeal Cert.KernelIdeal.Gen Cert.Stress
open Idealize.ShloMosaic

variable (x0 : Vec Ideal S1x20x2 .f32) (ang : Fin 20 → Fin 2 → ℝ) (h : ∀ g k, x0 (ix3 0 g k) = ((ang g k : ℝ) : EReal))

include h

/-- The camera's place and axes of graph `g` of a block, as the kernel computes them. -/
theorem pay3_at (g : Fin 20) : k0_pay3 x0 (ix2 g 0) = ((ang g 0 * deg : ℝ) : EReal) := by
  pointwise [k0_pay3, k0_pay2]
  rw [h, lit_deg, rmul]
theorem pay4_at (g : Fin 20) : k0_pay4 x0 (ix2 g 0) = ((ang g 1 * deg : ℝ) : EReal) := by
  pointwise [k0_pay4, k0_pay2]
  rw [h, lit_deg, rmul]
theorem pay5_at (g : Fin 20) : k0_pay5 x0 (ix2 g 0) = ((Real.cos (ang g 0 * deg) : ℝ) : EReal) := by
  pointwise [k0_pay5]
  rw [pay3_at x0 ang h, Ideal.cos_coe]
theorem pay6_at (g : Fin 20) : k0_pay6 x0 (ix2 g 0) = ((cY (ang g 0) : ℝ) : EReal) := by
  pointwise [k0_pay6]
  rw [pay3_at x0 ang h, Ideal.sin_coe]; rfl
theorem pay7_at (g : Fin 20) : k0_pay7 x0 (ix2 g 0) = ((cX (ang g 0) (ang g 1) : ℝ) : EReal) := by
  pointwise [k0_pay7]
  rw [pay4_at x0 ang h, pay5_at x0 ang h, Ideal.sin_coe, rmul]; rfl
theorem pay8_at (g : Fin 20) : k0_pay8 x0 (ix2 g 0) = ((cZ (ang g 0) (ang g 1) : ℝ) : EReal) := by
  pointwise [k0_pay8]
  rw [pay4_at x0 ang h, pay5_at x0 ang h, Ideal.cos_coe, rmul]; rfl
theorem pay9_at (g : Fin 20) : k0_pay9 x0 (ix2 g 0) = ((nC (ang g 0) (ang g 1) : ℝ) : EReal) := by
  pointwise [k0_pay9]
  rw [pay6_at x0 ang h, pay7_at x0 ang h, pay8_at x0 ang h, lit_eps, rmul, rmul, rmul, radd, radd,
    rsqrt (add_nonneg (add_nonneg (mul_self_nonneg _) (mul_self_nonneg _)) (mul_self_nonneg _)), rmax]; rfl
theorem pay10_at (g : Fin 20) : k0_pay10 x0 (ix2 g 0) = ((zX (ang g 0) (ang g 1) : ℝ) : EReal) := by
  pointwise [k0_pay10]
  rw [pay7_at x0 ang h, pay9_at x0 ang h, rzero, rsub, rdiv _ (nC_ne _ _), zero_sub]; rfl
theorem pay11_at (g : Fin 20) : k0_pay11 x0 (ix2 g 0) = ((zY (ang g 0) (ang g 1) : ℝ) : EReal) := by
  pointwise [k0_pay11]
  rw [pay6_at x0 ang h, pay9_at x0 ang h, rzero, rsub, rdiv _ (nC_ne _ _), zero_sub]; rfl
theorem pay12_at (g : Fin 20) : k0_pay12 x0 (ix2 g 0) = ((zZ (ang g 0) (ang g 1) : ℝ) : EReal) := by
  pointwise [k0_pay12]
  rw [pay8_at x0 ang h, pay9_at x0 ang h, rzero, rsub, rdiv _ (nC_ne _ _), zero_sub]; rfl
theorem pay13_at (g : Fin 20) : k0_pay13 x0 (ix2 g 0) = ((nX (ang g 0) (ang g 1) : ℝ) : EReal) := by
  pointwise [k0_pay13]
  rw [pay10_at x0 ang h, pay12_at x0 ang h, lit_eps, rmul, rmul, radd,
    rsqrt (add_nonneg (mul_self_nonneg _) (mul_self_nonneg _)), rmax]; rfl
theorem pay14_at (g : Fin 20) : k0_pay14 x0 (ix2 g 0) = ((xX (ang g 0) (ang g 1) : ℝ) : EReal) := by
  pointwise [k0_pay14]
  rw [pay12_at x0 ang h, pay13_at x0 ang h, rdiv _ (nX_ne _ _)]; rfl
theorem pay15_at (g : Fin 20) : k0_pay15 x0 (ix2 g 0) = ((xZ (ang g 0) (ang g 1) : ℝ) : EReal) := by
  pointwise [k0_pay15]
  rw [pay10_at x0 ang h, pay13_at x0 ang h, rzero, rsub, rdiv _ (nX_ne _ _), zero_sub]; rfl
theorem pay16_at (g : Fin 20) : k0_pay16 x0 (ix2 g 0) = ((wX (ang g 0) (ang g 1) : ℝ) : EReal) := by
  pointwise [k0_pay16]
  rw [pay11_at x0 ang h, pay15_at x0 ang h, rmul]; rfl

/-- The screen coordinates of point `i` of graph `g` of a block, as the kernel computes them. -/
theorem pay17_at0 (x1 : Vec Ideal S20x100x3 .f32) (pos : Fin 20 → Fin 100 → Fin 3 → ℝ) (hp : ∀ g i k, x1 (ix3 g i k) = ((pos g i k : ℝ) : EReal)) (g : Fin 20) (i : Fin 100) :
    k0_pay17 (k0_pay6 x0) (k0_pay7 x0) (k0_pay8 x0) (k0_pay10 x0) (k0_pay11 x0) (k0_pay12 x0) (k0_pay14 x0) (k0_pay15 x0) (k0_pay16 x0) x1 (ix3 g i 0)
      = ((scrX (ang g 0) (ang g 1) (pos g i 0) (pos g i 2) : ℝ) : EReal) := by
  pointwise [k0_pay17]
  rw [Fin.sum_univ_four]
  simp [-EReal.coe_add, -EReal.coe_mul, -EReal.coe_sub, -EReal.coe_neg]
  simp only [pay6_at x0 ang h, pay7_at x0 ang h, pay8_at x0 ang h, pay10_at x0 ang h, pay11_at x0 ang h, pay12_at x0 ang h,
    pay14_at x0 ang h, pay15_at x0 ang h, pay16_at x0 ang h, hp, lit_eps, rmul, radd, rsub, rneg, rsqrt3, rmax, rdiv_max]
  refine congrArg _ ?_
  simp only [scrX, scrY, yX, yY, yZ, nY, nrm, wY, wZ, t0, t1, neg_mul, mul_neg, neg_neg]
theorem pay17_at1 (x1 : Vec Ideal S20x100x3 .f32) (pos : Fin 20 → Fin 100 → Fin 3 → ℝ) (hp : ∀ g i k, x1 (ix3 g i k) = ((pos g i k : ℝ) : EReal)) (g : Fin 20) (i : Fin 100) :
    k0_pay17 (k0_pay6 x0) (k0_pay7 x0) (k0_pay8 x0) (k0_pay10 x0) (k0_pay11 x0) (k0_pay12 x0) (k0_pay14 x0) (k0_pay15 x0) (k0_pay16 x0) x1 (ix3 g i 1)
      = ((scrY (ang g 0) (ang g 1) (pos g i 0) (pos g i 1) (pos g i 2) : ℝ) : EReal) := by
  pointwise [k0_pay17]
  rw [Fin.sum_univ_four]
  simp [-EReal.coe_add, -EReal.coe_mul, -EReal.coe_sub, -EReal.coe_neg]
  simp only [pay6_at x0 ang h, pay7_at x0 ang h, pay8_at x0 ang h, pay10_at x0 ang h, pay11_at x0 ang h, pay12_at x0 ang h,
    pay14_at x0 ang h, pay15_at x0 ang h, pay16_at x0 ang h, hp, lit_eps, rmul, radd, rsub, rneg, rsqrt3, rmax, rdiv_max]
  refine congrArg _ ?_
  simp only [scrX, scrY, yX, yY, yZ, nY, nrm, wY, wZ, t0, t1, neg_mul, mul_neg, neg_neg]

end Cert.KernelIdeal.Hand

end
-- ==== Proof.Block.lean ====
module

public import proofs.«01_k».proof.Proof.BlockCam
public import proofs.«01_k».proof.Proof.Places
public import Idealize.ShloMosaic.Lib.StableHlo.Predicate

@[expose] public section

set_option maxRecDepth 16384

noncomputable section

namespace Cert.KernelIdeal.Hand

open Cert.KernelIdeal Cert.KernelIdeal.Gen Cert.Stress
open Idealize.ShloMosaic

section Parts
variable (v86 : FVec Ideal S20x100x1 .f32) (v88 : FVec Ideal S20x100x4 .f32) (v91 : FVec Ideal S20x1x100 .f32) (v93 : FVec Ideal S20x100 .f32)
  (x3 : Vec Ideal S20x100x99 .f32) (X Y : Fin 20 → Fin 100 → ℝ) (d : Fin 20 → Fin 100 → Fin 99 → ℝ)
  (h86 : ∀ g i, v86 (ix3 g i 0) = ((X g i * X g i + Y g i * Y g i : ℝ) : EReal))
  (h880 : ∀ g i, v88 (ix3 g i 0) = ((X g i : ℝ) : EReal)) (h881 : ∀ g i, v88 (ix3 g i 1) = ((Y g i : ℝ) : EReal))
  (h882 : ∀ g i, v88 (ix3 g i 2) = ((X g i * X g i + Y g i * Y g i : ℝ) : EReal)) (h883 : ∀ g i, v88 (ix3 g i 3) = ((1 : ℝ) : EReal))
  (h91 : ∀ g i, v91 (ix3 g 0 i) = ((X g i : ℝ) : EReal)) (h93 : ∀ g i, v93 (ix2 g i) = ((Y g i : ℝ) : EReal))
  (h3 : ∀ g i k, x3 (ix3 g i k) = ((d g i k : ℝ) : EReal)) (hd : ∀ g i k, d g i k ≠ 0)

/-- The wanted length the kernel divides by, at the pair `(i, j)` of nodes. -/
def wanted (d : Fin 100 → Fin 99 → ℝ) (i j : Fin 100) : ℝ :=
  if h : j < i then d i ⟨j.val, by omega⟩ else if h' : j = i then big else d i ⟨j.val - 1, by omega⟩

theorem wanted_self (d : Fin 100 → Fin 99 → ℝ) (i : Fin 100) : wanted d i i = big := by simp [wanted]
theorem wanted_edge (d : Fin 100 → Fin 99 → ℝ) (i : Fin 100) (k : Fin 99) : wanted d i (i.succAbove k) = d i k := by
  unfold wanted
  rcases lt_or_ge k.castSucc i with h | h
  · rw [Fin.succAbove_of_castSucc_lt _ _ h, dif_pos h]; rfl
  · rw [Fin.succAbove_of_le_castSucc _ _ h]
    have h1 : ¬ k.succ < i := by simp only [Fin.lt_def, Fin.le_def, Fin.val_succ, Fin.val_castSucc] at *; omega
    have h2 : ¬ k.succ = i := by simp only [Fin.ext_iff, Fin.le_def, Fin.val_succ, Fin.val_castSucc] at *; omega
    rw [dif_neg h1, dif_neg h2]; rfl
theorem wanted_ne (d : Fin 100 → Fin 99 → ℝ) (hd : ∀ i k, d i k ≠ 0) (i j : Fin 100) : wanted d i j ≠ 0 := by
  unfold wanted
  split
  · exact hd _ _
  · split
    · exact big_ne
    · exact hd _ _

include h86 h880 h881 h882 h883 h91 h93 h3 hd

/-- The kernel's quotient at the pair `(i, j)` of nodes of graph `g`. -/
theorem pay24_at (g : Fin 20) (i : Fin 100) (j : Fin 100) :
    k0_pay24 v86 v88 v91 v93 x3 (ix3 g i j) = ((gap (X g i) (Y g i) (X g j) (Y g j) / wanted (d g) i j : ℝ) : EReal) := by
  pointwise [k0_pay24]
  rw [Fin.sum_univ_four]
  simp [-EReal.coe_add, -EReal.coe_mul, -EReal.coe_sub, -EReal.coe_neg]
  simp only [h86, h880, h881, h882, h883, h91, h93, lit_neg_two, lit_big, rmul, radd, one_mul, rzero, rmax]
  have e : X g i * (-2 * X g j) + Y g i * (-2 * Y g j) + (X g i * X g i + Y g i * Y g i) + (X g j * X g j + Y g j * Y g j)
      = (X g i - X g j) * (X g i - X g j) + (Y g i - Y g j) * (Y g i - Y g j) := by ring
  rw [e, max_eq_left (add_nonneg (mul_self_nonneg _) (mul_self_nonneg _)), rsqrt2]
  rw [show ∀ a b : EReal, Scalar.select (IntOp.cmpi .slt (BitVec.ofNat 32 j.val) (BitVec.ofNat 32 i.val)) a b = if j < i then a else b from ?_,
    show ∀ a b : EReal, Scalar.select (IntOp.cmpi .eq (BitVec.ofNat 32 j.val) (BitVec.ofNat 32 i.val)) a b = if j = i then a else b from ?_]
  · rw [← rdiv _ (wanted_ne (d g) (hd g) i j)]
    refine congrArg₂ Ideal.div rfl ?_
    unfold wanted
    by_cases h : j < i
    · rw [if_pos h, dif_pos h, dif_pos (by have := Fin.lt_def.mp h; omega), h3]
    · rw [if_neg h, dif_neg h]
      by_cases h' : j = i
      · rw [if_pos h', dif_pos h']
      · have h0 : ¬ j = 0 := fun e => by subst e; simp only [Fin.lt_def, Fin.ext_iff] at h h'; have : (0 : Fin 100).val = 0 := rfl; omega
        rw [if_neg h', dif_neg h', dif_neg h0, dif_pos (by omega), h3]
  · intro a b
    unfold Scalar.select
    refine if_congr ?_ rfl rfl
    rw [Fin.ext_iff]
    refine Iff.trans (StableHlo.Predicate.cmpi_eq_iff) ?_
    constructor
    · intro e; have := congrArg BitVec.toNat e; simp only [BitVec.toNat_ofNat] at this; omega
    · intro e; rw [e]
  · intro a b
    unfold Scalar.select
    refine if_congr ?_ rfl rfl
    rw [Fin.lt_def]
    exact StableHlo.Predicate.slt_ofNat_iff _ _ (by omega) (by omega)

theorem pay24_self (i : Fin 100) (X Y : Fin 100 → ℝ) (D : ℝ) : gap (X i) (Y i) (X i) (Y i) / D = 0 := by simp [gap]

/-- The sum of the quotients' squares of graph `g` of a block. -/
theorem pay25_at (g : Fin 20) : k0_pay25 v86 v88 v91 v93 x3 (ix1 g) = ((sqs (X g) (Y g) (d g) : ℝ) : EReal) := by
  pointwise [k0_pay25]
  simp only [pay24_at v86 v88 v91 v93 x3 X Y d h86 h880 h881 h882 h883 h91 h93 h3 hd, rmul, rsum]
  refine congrArg _ ?_
  rw [sum_pairs _ (fun i => by simp [gap])]
  simp only [wanted_edge]; rfl
/-- The sum of the quotients of graph `g` of a block. -/
theorem pay26_at (g : Fin 20) : k0_pay26 v86 v88 v91 v93 x3 (ix1 g) = ((quos (X g) (Y g) (d g) : ℝ) : EReal) := by
  pointwise [k0_pay26]
  simp only [pay24_at v86 v88 v91 v93 x3 X Y d h86 h880 h881 h882 h883 h91 h93 h3 hd, rmul, rsum]
  refine congrArg _ ?_
  rw [sum_pairs _ (fun i => by simp [gap])]
  simp only [wanted_edge]; rfl
end Parts

variable (x0 : Vec Ideal S1x20x2 .f32) (ang : Fin 20 → Fin 2 → ℝ) (h0 : ∀ g k, x0 (ix3 0 g k) = ((ang g k : ℝ) : EReal))
  (x1 : Vec Ideal S20x100x3 .f32) (pos : Fin 20 → Fin 100 → Fin 3 → ℝ) (h1 : ∀ g i k, x1 (ix3 g i k) = ((pos g i k : ℝ) : EReal))
  (x3 : Vec Ideal S20x100x99 .f32) (d : Fin 20 → Fin 100 → Fin 99 → ℝ)
  (h3 : ∀ g i k, x3 (ix3 g i k) = ((d g i k : ℝ) : EReal)) (hd : ∀ g i k, d g i k ≠ 0)

/-- The screen coordinates of point `i` of graph `g`. -/
def bX (ang : Fin 20 → Fin 2 → ℝ) (pos : Fin 20 → Fin 100 → Fin 3 → ℝ) (g : Fin 20) (i : Fin 100) : ℝ :=
  scrX (ang g 0) (ang g 1) (pos g i 0) (pos g i 2)
def bY (ang : Fin 20 → Fin 2 → ℝ) (pos : Fin 20 → Fin 100 → Fin 3 → ℝ) (g : Fin 20) (i : Fin 100) : ℝ :=
  scrY (ang g 0) (ang g 1) (pos g i 0) (pos g i 1) (pos g i 2)

section Pts
include h0 h1
theorem pt20_at (g : Fin 20) (i : Fin 100) :
    pt20 x0 x1 (ix3 g i 0) = ((bX ang pos g i * bX ang pos g i + bY ang pos g i * bY ang pos g i : ℝ) : EReal) := by
  pointwise [pt20, k0_pay20, k0_pay18, k0_pay19]
  rw [pay17_at0 x0 ang h0 x1 pos h1, pay17_at1 x0 ang h0 x1 pos h1, rmul, rmul, radd]; rfl
theorem pt21_at0 (g : Fin 20) (i : Fin 100) : pt21 x0 x1 (ix3 g i 0) = ((bX ang pos g i : ℝ) : EReal) := by
  pointwise [pt21, k0_pay21, k0_pay18, k0_pay19, k0_pay20]
  exact pay17_at0 x0 ang h0 x1 pos h1 g i
theorem pt21_at1 (g : Fin 20) (i : Fin 100) : pt21 x0 x1 (ix3 g i 1) = ((bY ang pos g i : ℝ) : EReal) := by
  pointwise [pt21, k0_pay21, k0_pay18, k0_pay19, k0_pay20]
  exact pay17_at1 x0 ang h0 x1 pos h1 g i
theorem pt21_at2 (g : Fin 20) (i : Fin 100) :
    pt21 x0 x1 (ix3 g i 2) = ((bX ang pos g i * bX ang pos g i + bY ang pos g i * bY ang pos g i : ℝ) : EReal) := by
  pointwise [pt21, k0_pay21, k0_pay18, k0_pay19, k0_pay20]
  rw [pay17_at0 x0 ang h0 x1 pos h1, pay17_at1 x0 ang h0 x1 pos h1, rmul, rmul, radd]; rfl
omit h0 h1 in
theorem pt21_at3 (g : Fin 20) (i : Fin 100) : pt21 x0 x1 (ix3 g i 3) = ((1 : ℝ) : EReal) := by
  pointwise [pt21, k0_pay21, k0_pay18, k0_pay19, k0_pay20]
  rfl
theorem pt22_at (g : Fin 20) (i : Fin 100) : pt22 x0 x1 (ix3 g 0 i) = ((bX ang pos g i : ℝ) : EReal) := by
  pointwise [pt22, k0_pay22]
  exact pay17_at0 x0 ang h0 x1 pos h1 g i
theorem pt23_at (g : Fin 20) (i : Fin 100) : pt23 x0 x1 (ix2 g i) = ((bY ang pos g i : ℝ) : EReal) := by
  pointwise [pt23, k0_pay23]
  exact pay17_at1 x0 ang h0 x1 pos h1 g i
end Pts

section Sums
include h0 h1 h3 hd
/-- The kernel's two sums of one graph of a block. -/
theorem sqSum_at (g : Fin 20) : sqSum x0 x1 x3 (ix1 g) = ((sqs (bX ang pos g) (bY ang pos g) (d g) : ℝ) : EReal) :=
  pay25_at _ _ _ _ x3 (bX ang pos) (bY ang pos) d (pt20_at x0 ang h0 x1 pos h1) (pt21_at0 x0 ang h0 x1 pos h1) (pt21_at1 x0 ang h0 x1 pos h1)
    (pt21_at2 x0 ang h0 x1 pos h1) (pt21_at3 x0 x1) (pt22_at x0 ang h0 x1 pos h1) (pt23_at x0 ang h0 x1 pos h1) h3 hd g
theorem quoSum_at (g : Fin 20) : quoSum x0 x1 x3 (ix1 g) = ((quos (bX ang pos g) (bY ang pos g) (d g) : ℝ) : EReal) :=
  pay26_at _ _ _ _ x3 (bX ang pos) (bY ang pos) d (pt20_at x0 ang h0 x1 pos h1) (pt21_at0 x0 ang h0 x1 pos h1) (pt21_at1 x0 ang h0 x1 pos h1)
    (pt21_at2 x0 ang h0 x1 pos h1) (pt21_at3 x0 x1) (pt22_at x0 ang h0 x1 pos h1) (pt23_at x0 ang h0 x1 pos h1) h3 hd g
end Sums

variable (x2 : Vec Ideal S1x1x20 .i32) (h2 : ∀ g, x2 (ix3 0 0 g) = 100#32)

include h2
theorem pay27_at (g : Fin 20) : k0_pay27 (F := Ideal) x2 (ix1 g) = ((9900 : ℝ) : EReal) := by
  pointwise [k0_pay27]
  rw [h2, show FloatOps.sitofp (F := Ideal) .f32 (100#32) = ((100 : ℝ) : EReal) from ?_, rmul, rsub]
  · norm_num
  · show (((100#32 : BitVec 32).toInt : ℝ) : EReal) = _
    rw [show (100#32 : BitVec 32).toInt = 100 from by decide]; norm_num
theorem pay28_at (g : Fin 20) : k0_pay28 (F := Ideal) x2 (ix1 g) = ((9900 * 500 : ℝ) : EReal) := by
  pointwise [k0_pay28]
  rw [pay27_at x2 h2, lit_500, rmul]
theorem weight_at (g : Fin 20) : Ideal.div (Scalar.ofBits (F := Ideal) .f32 0x447A0000#32) (k0_pay28 (F := Ideal) x2 (ix1 g)) = ((wt : ℝ) : EReal) := by
  rw [pay28_at x2 h2, show Scalar.ofBits (F := Ideal) .f32 0x447A0000#32 = ((1000 : ℝ) : EReal) from lit_1000, rdiv _ (by norm_num)]; rfl
omit h2

section Cells
include h0 h1 h2 h3 hd
/-- What one point adds to the five cells that hold reals. -/
theorem step_at (xs : Vec Ideal S8 .f32) (r : Fin 5 → ℝ) (hr : ∀ k : Fin 5, xs (cell ⟨k.val, by omega⟩) = ((r k : ℝ) : EReal)) (k : Fin 5) :
    step x0 x1 x2 x3 xs (cell ⟨k.val, by omega⟩)
      = ((r k + ∑ g : Fin 20, (![sqs (bX ang pos g) (bY ang pos g) (d g), quos (bX ang pos g) (bY ang pos g) (d g),
          wt * sqs (bX ang pos g) (bY ang pos g) (d g), wt * quos (bX ang pos g) (bY ang pos g) (d g), wt * 9900] k) : ℝ) : EReal) := by
  match k with
  | 0 =>
    refine (show _ = k0_pay30 (sqSum x0 x1 x3) (xs (cell 0)) from rfl).trans ?_
    pointwise [k0_pay30]
    simp only [sqSum_at x0 ang h0 x1 pos h1 x3 d h3 hd, rsum]
    rw [show xs (cell 0) = _ from hr 0, radd]
  | 1 =>
    refine (show _ = k0_pay31 (quoSum x0 x1 x3) (xs (cell 1)) from rfl).trans ?_
    pointwise [k0_pay31]
    simp only [quoSum_at x0 ang h0 x1 pos h1 x3 d h3 hd, rsum]
    rw [show xs (cell 1) = _ from hr 1, radd]
  | 2 =>
    refine (show _ = k0_pay32 (sqSum x0 x1 x3) (k0_pay28 x2) (Scalar.ofBits .f32 0x447A0000#32) (xs (cell 2)) from rfl).trans ?_
    pointwise [k0_pay32, k0_pay29]
    simp only [sqSum_at x0 ang h0 x1 pos h1 x3 d h3 hd, pay28_at x2 h2, lit_1000, rdiv _ (show (9900 * 500 : ℝ) ≠ 0 by norm_num), rmul, rsum]
    rw [show xs (cell 2) = _ from hr 2, radd]; rfl
  | 3 =>
    refine (show _ = k0_pay33 (quoSum x0 x1 x3) (k0_pay28 x2) (Scalar.ofBits .f32 0x447A0000#32) (xs (cell 3)) from rfl).trans ?_
    pointwise [k0_pay33, k0_pay29]
    simp only [quoSum_at x0 ang h0 x1 pos h1 x3 d h3 hd, pay28_at x2 h2, lit_1000, rdiv _ (show (9900 * 500 : ℝ) ≠ 0 by norm_num), rmul, rsum]
    rw [show xs (cell 3) = _ from hr 3, radd]; rfl
  | 4 =>
    refine (show _ = k0_pay34 (k0_pay27 x2) (k0_pay28 x2) (Scalar.ofBits .f32 0x447A0000#32) (xs (cell 4)) from rfl).trans ?_
    pointwise [k0_pay34, k0_pay29]
    simp only [pay27_at x2 h2, pay28_at x2 h2, lit_1000, rdiv _ (show (9900 * 500 : ℝ) ≠ 0 by norm_num), rmul, rsum]
    rw [show xs (cell 4) = _ from hr 4, radd]; rfl
end Cells

/-- The answer from five cells that hold reals, the first not zero. -/
theorem answer_at (xs : Vec Ideal S8 .f32) (r : Fin 5 → ℝ) (hr : ∀ k : Fin 5, xs (cell ⟨k.val, by omega⟩) = ((r k : ℝ) : EReal)) (h : r 0 ≠ 0) :
    answer xs (ix2 0 0) = (((r 1 / r 0) * (r 1 / r 0) * r 2 - 2 * (r 1 / r 0) * r 3 + r 4 : ℝ) : EReal) := by
  pointwise [answer, k0_pay1]
  rw [show xs (cell 0) = _ from hr 0, show xs (cell 1) = _ from hr 1, show xs (cell 2) = _ from hr 2, show xs (cell 3) = _ from hr 3,
    show xs (cell 4) = _ from hr 4, rdiv _ h, lit_two]
  simp only [rmul, rsub, radd]

end Cert.KernelIdeal.Hand

end
-- ==== Proof.ValueI.lean ====
module

public import proofs.«01_k».proof.Proof.Block
public import proofs.«01_k».proof.Proof.FrameI
public import Idealize.ShloMosaic.Lib.StableHlo.Run

@[expose] public section

set_option maxRecDepth 16384

noncomputable section

namespace Cert.KernelIdeal.Hand

open Cert.KernelIdeal Cert.KernelIdeal.Gen Cert.Stress
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arrays the region finds -/

theorem V_v0 (c : Dev nD) : V m c main_v0 = shapeCast (α := EReal) S25x20x2 (m ((c : Thread nD τ).loc main_arg0)) shapeCasts_S500x2_S25x20x2 := by
  unfold V V0
  simp only [hostOps0, List.flatten_cons, List.flatten_nil, List.append_nil]
  after_results
  rfl
theorem V_v1 (c : Dev nD) : V m c main_v1 = shapeCast (α := EReal) S500x100x3 (m ((c : Thread nD τ).loc main_arg1)) shapeCasts_S50000x3_S500x100x3 := by
  unfold V V0
  simp only [hostOps0, List.flatten_cons, List.flatten_nil, List.append_nil]
  after_results
  rfl
theorem V_v2 (c : Dev nD) : V m c main_v2 = shapeCast (α := BitVec 32) S25x1x20 (m ((c : Thread nD τ).loc main_arg2)) shapeCasts_S500_S25x1x20 := by
  unfold V V0
  simp only [hostOps0, List.flatten_cons, List.flatten_nil, List.append_nil]
  after_results
  rfl
/-- The first column of the edges' attributes, as the host computes it: a product with a unit vector, summed. -/
def column (x : Vec Ideal S4950000x4 .f32) : FVec Ideal S500x100x99 .f32 :=
  Host.reduceAdd (F := Ideal) (mulf (shapeCast S500x100x99x4 x shapeCasts_S4950000x4_S500x100x99x4) (broadcastInDim S500x100x99x4 ![0, 1, 2, 3] bcast_S1x1x1x4_S500x100x99x4_0_1_2_3 (broadcastInDim S1x1x1x4 ![3] bcast_S4_S1x1x1x4_3 (fun i => FloatOps.ofBits .f32 (lit0 (S4.rowMajor i)))))) (constant S_ .f32 0x00000000#32) reducesTo_S500x100x99x4_S500x100x99_d3 h_S_
theorem V_v7 (c : Dev nD) : V m c main_v7 = column (m ((c : Thread nD τ).loc main_arg4)) := by
  unfold V V0
  simp only [hostOps0, List.flatten_cons, List.flatten_nil, List.append_nil]
  after_results
  rfl

theorem lit0_0 : Ideal.ofBits .f32 (lit0 (S4.rowMajor (ix1 0))) = 1 := lit_one
theorem lit0_1 : Ideal.ofBits .f32 (lit0 (S4.rowMajor (ix1 1))) = 0 := lit_zero
theorem lit0_2 : Ideal.ofBits .f32 (lit0 (S4.rowMajor (ix1 2))) = 0 := lit_zero
theorem lit0_3 : Ideal.ofBits .f32 (lit0 (S4.rowMajor (ix1 3))) = 0 := lit_zero

/-- The host's column at an edge is the first attribute of the edge. -/
theorem column_at (x : Vec Ideal S4950000x4 .f32) (g : Fin 500) (i : Fin 100) (k : Fin 99) : column x (ix3 g i k) = x (ix2 (edgeAt g i k) 0) := by
  pointwise [column]
  rw [Fin.sum_univ_four, lit0_0, lit0_1, lit0_2, lit0_3, mul_one, mul_zero, mul_zero, mul_zero, add_zero, add_zero, add_zero]
  rfl

/-! ## The blocks at a point -/

theorem idx0 : ∀ t : Fin cfg0.N, win0_0.index t 0 = t.val ∧ win0_0.index t 1 = 0 ∧ win0_0.index t 2 = 0 := by decide +kernel
theorem idx1 : ∀ t : Fin cfg0.N, win0_1.index t 0 = t.val ∧ win0_1.index t 1 = 0 ∧ win0_1.index t 2 = 0 := by decide +kernel
theorem idx2 : ∀ t : Fin cfg0.N, win0_2.index t 0 = t.val ∧ win0_2.index t 1 = 0 ∧ win0_2.index t 2 = 0 := by decide +kernel
theorem idx3 : ∀ t : Fin cfg0.N, win0_3.index t 0 = t.val ∧ win0_3.index t 1 = 0 ∧ win0_3.index t 2 = 0 := by decide +kernel

theorem v0_at (x : Vec Ideal S500x2 .f32) (t : Fin 25) (g : Fin 20) (k : Fin 2) :
    shapeCast S25x20x2 x shapeCasts_S500x2_S25x20x2 (ix3 t g k) = x (ix2 (graphAt t g) k) := by
  pointwise
  rfl
theorem v1_at (x : Vec Ideal S50000x3 .f32) (g : Fin 500) (i : Fin 100) (k : Fin 3) :
    shapeCast S500x100x3 x shapeCasts_S50000x3_S500x100x3 (ix3 g i k) = x (ix2 (nodeAt g i) k) := by
  pointwise
  rfl
theorem v2_at (x : Vec Ideal S500 .i32) (t : Fin 25) (g : Fin 20) :
    shapeCast S25x1x20 x shapeCasts_S500_S25x1x20 (ix3 t 0 g) = x (ix1 (graphAt t g)) := by
  pointwise
  rfl

theorem iblk0_at (c : Dev nD) (n : ℕ) (hn : n < cfg0.N) (h25 : n < 25) (g : Fin 20) (k : Fin 2) :
    (iblk m c 0 ⟨n, hn⟩ : Vec Ideal S1x20x2 .f32) (ix3 0 g k) = (m ((c : Thread nD τ).loc main_arg0) : Vec Ideal S500x2 .f32) (ix2 (graphAt ⟨n, h25⟩ g) k) := by
  have e : ((cfg0.win 0).blk ⟨n, hn⟩).view.emb (ix3 (n0 := 1) (n1 := 20) (n2 := 2) 0 g k) = ix3 (n0 := 25) (n1 := 20) (n2 := 2) ⟨n, h25⟩ g k := by
    obtain ⟨e0, e1, e2⟩ := idx0 ⟨n, hn⟩
    have e0 : win0_0.index ⟨n, hn⟩ 0 = n := e0
    funext a; apply Fin.ext
    match a with
    | ⟨0, _⟩ => show win0_0.index ⟨n, hn⟩ 0 * 1 + 1 * 0 = n; rw [e0]; omega
    | ⟨1, _⟩ => show win0_0.index ⟨n, hn⟩ 1 * 20 + 1 * g.val = g.val; rw [e1]; omega
    | ⟨2, _⟩ => show win0_0.index ⟨n, hn⟩ 2 * 2 + 1 * k.val = k.val; rw [e2]; omega
  refine (show _ = V m c main_v0 (((cfg0.win 0).blk ⟨n, hn⟩).view.emb (ix3 (n0 := 1) (n1 := 20) (n2 := 2) 0 g k)) from rfl).trans ?_
  rw [e, V_v0]
  exact v0_at _ _ _ _
theorem iblk1_at (c : Dev nD) (n : ℕ) (hn : n < cfg0.N) (h25 : n < 25) (g : Fin 20) (i : Fin 100) (k : Fin 3) :
    (iblk m c 1 ⟨n, hn⟩ : Vec Ideal S20x100x3 .f32) (ix3 g i k) = (m ((c : Thread nD τ).loc main_arg1) : Vec Ideal S50000x3 .f32) (ix2 (nodeAt (graphAt ⟨n, h25⟩ g) i) k) := by
  have e : ((cfg0.win 1).blk ⟨n, hn⟩).view.emb (ix3 (n0 := 20) (n1 := 100) (n2 := 3) g i k) = ix3 (n0 := 500) (n1 := 100) (n2 := 3) (graphAt ⟨n, h25⟩ g) i k := by
    obtain ⟨e0, e1, e2⟩ := idx1 ⟨n, hn⟩
    have e0 : win0_1.index ⟨n, hn⟩ 0 = n := e0
    funext a; apply Fin.ext
    match a with
    | ⟨0, _⟩ => show win0_1.index ⟨n, hn⟩ 0 * 20 + 1 * g.val = n * 20 + g.val; rw [e0]; omega
    | ⟨1, _⟩ => show win0_1.index ⟨n, hn⟩ 1 * 100 + 1 * i.val = i.val; rw [e1]; omega
    | ⟨2, _⟩ => show win0_1.index ⟨n, hn⟩ 2 * 3 + 1 * k.val = k.val; rw [e2]; omega
  refine (show _ = V m c main_v1 (((cfg0.win 1).blk ⟨n, hn⟩).view.emb (ix3 (n0 := 20) (n1 := 100) (n2 := 3) g i k)) from rfl).trans ?_
  rw [e, V_v1]
  exact v1_at _ _ _ _
theorem iblk2_at (c : Dev nD) (n : ℕ) (hn : n < cfg0.N) (h25 : n < 25) (g : Fin 20) :
    (iblk m c 2 ⟨n, hn⟩ : Vec Ideal S1x1x20 .i32) (ix3 0 0 g) = (m ((c : Thread nD τ).loc main_arg2) : Vec Ideal S500 .i32) (ix1 (graphAt ⟨n, h25⟩ g)) := by
  have e : ((cfg0.win 2).blk ⟨n, hn⟩).view.emb (ix3 (n0 := 1) (n1 := 1) (n2 := 20) 0 0 g) = ix3 (n0 := 25) (n1 := 1) (n2 := 20) ⟨n, h25⟩ 0 g := by
    obtain ⟨e0, e1, e2⟩ := idx2 ⟨n, hn⟩
    have e0 : win0_2.index ⟨n, hn⟩ 0 = n := e0
    funext a; apply Fin.ext
    match a with
    | ⟨0, _⟩ => show win0_2.index ⟨n, hn⟩ 0 * 1 + 1 * 0 = n; rw [e0]; omega
    | ⟨1, _⟩ => show win0_2.index ⟨n, hn⟩ 1 * 1 + 1 * 0 = 0; rw [e1]
    | ⟨2, _⟩ => show win0_2.index ⟨n, hn⟩ 2 * 20 + 1 * g.val = g.val; rw [e2]; omega
  refine (show _ = V m c main_v2 (((cfg0.win 2).blk ⟨n, hn⟩).view.emb (ix3 (n0 := 1) (n1 := 1) (n2 := 20) 0 0 g)) from rfl).trans ?_
  rw [e, V_v2]
  exact v2_at _ _ _
theorem iblk3_at (c : Dev nD) (n : ℕ) (hn : n < cfg0.N) (h25 : n < 25) (g : Fin 20) (i : Fin 100) (k : Fin 99) :
    (iblk m c 3 ⟨n, hn⟩ : Vec Ideal S20x100x99 .f32) (ix3 g i k) = (m ((c : Thread nD τ).loc main_arg4) : Vec Ideal S4950000x4 .f32) (ix2 (edgeAt (graphAt ⟨n, h25⟩ g) i k) 0) := by
  have e : ((cfg0.win 3).blk ⟨n, hn⟩).view.emb (ix3 (n0 := 20) (n1 := 100) (n2 := 99) g i k) = ix3 (n0 := 500) (n1 := 100) (n2 := 99) (graphAt ⟨n, h25⟩ g) i k := by
    obtain ⟨e0, e1, e2⟩ := idx3 ⟨n, hn⟩
    have e0 : win0_3.index ⟨n, hn⟩ 0 = n := e0
    funext a; apply Fin.ext
    match a with
    | ⟨0, _⟩ => show win0_3.index ⟨n, hn⟩ 0 * 20 + 1 * g.val = n * 20 + g.val; rw [e0]; omega
    | ⟨1, _⟩ => show win0_3.index ⟨n, hn⟩ 1 * 100 + 1 * i.val = i.val; rw [e1]; omega
    | ⟨2, _⟩ => show win0_3.index ⟨n, hn⟩ 2 * 99 + 1 * k.val = k.val; rw [e2]; omega
  refine (show _ = V m c main_v7 (((cfg0.win 3).blk ⟨n, hn⟩).view.emb (ix3 (n0 := 20) (n1 := 100) (n2 := 99) g i k)) from rfl).trans ?_
  rw [e, V_v7]
  exact column_at _ _ _ _

/-! ## The cells after the last point -/

section
variable (c : Dev nD) (ang : Fin 500 → Fin 2 → ℝ) (pos : Fin 50000 → Fin 3 → ℝ) (d : Fin 4950000 → ℝ)
  (h0 : ∀ g k, (m ((c : Thread nD τ).loc main_arg0) : Vec Ideal S500x2 .f32) (ix2 g k) = ((ang g k : ℝ) : EReal))
  (h1 : ∀ n k, (m ((c : Thread nD τ).loc main_arg1) : Vec Ideal S50000x3 .f32) (ix2 n k) = ((pos n k : ℝ) : EReal))
  (h2 : ∀ g, (m ((c : Thread nD τ).loc main_arg2) : Vec Ideal S500 .i32) (ix1 g) = 100#32)
  (h4 : ∀ e, (m ((c : Thread nD τ).loc main_arg4) : Vec Ideal S4950000x4 .f32) (ix2 e 0) = ((d e : ℝ) : EReal)) (hd : ∀ e, d e ≠ 0)

/-- What graph `g` adds to cell `k`. -/
def adds (g : Fin 500) (k : Fin 5) : ℝ :=
  ![gSq ang pos d g, gQuo ang pos d g, wt * gSq ang pos d g, wt * gQuo ang pos d g, wt * 9900] k
/-- What block `t` adds to cell `k`. -/
def blockAdds (t : ℕ) (k : Fin 5) : ℝ := if h : t < 25 then ∑ g, adds ang pos d (graphAt ⟨t, h⟩ g) k else 0

include h0 h1 h2 h4 hd

theorem step_block (n : ℕ) (hn : n < cfg0.N) (h25 : n < 25) (xs : Vec Ideal S8 .f32) (r : Fin 5 → ℝ)
    (hr : ∀ k : Fin 5, xs (cell ⟨k.val, by omega⟩) = ((r k : ℝ) : EReal)) (k : Fin 5) :
    step (iblk m c 0 ⟨n, hn⟩) (iblk m c 1 ⟨n, hn⟩) (iblk m c 2 ⟨n, hn⟩) (iblk m c 3 ⟨n, hn⟩) xs (cell ⟨k.val, by omega⟩)
      = ((r k + blockAdds ang pos d n k : ℝ) : EReal) := by
  rw [step_at (iblk m c 0 ⟨n, hn⟩) (fun g k => ang (graphAt ⟨n, h25⟩ g) k) (fun g k => (iblk0_at m c n hn h25 g k).trans (h0 _ _))
    (iblk m c 1 ⟨n, hn⟩) (fun g i k => pos (nodeAt (graphAt ⟨n, h25⟩ g) i) k) (fun g i k => (iblk1_at m c n hn h25 g i k).trans (h1 _ _))
    (iblk m c 3 ⟨n, hn⟩) (fun g i k => d (edgeAt (graphAt ⟨n, h25⟩ g) i k)) (fun g i k => (iblk3_at m c n hn h25 g i k).trans (h4 _)) (fun _ _ _ => hd _)
    (iblk m c 2 ⟨n, hn⟩) (fun g => (iblk2_at m c n hn h25 g).trans (h2 _)) xs r hr k]
  unfold blockAdds
  rw [dif_pos h25]
  rfl

theorem acc_at : ∀ (n : ℕ) (hn : n < cfg0.N) (k : Fin 5),
    acc m c anyCells n hn (cell ⟨k.val, by omega⟩) = ((∑ t ∈ Finset.range (n + 1), blockAdds ang pos d t k : ℝ) : EReal)
  | 0, hn, k => by
    refine (step_block m c ang pos d h0 h1 h2 h4 hd 0 hn (by omega) (cleared anyCells) (fun _ => 0) (fun j => ?_) k).trans ?_
    · unfold cleared
      rw [if_pos (show ((cell ⟨j.val, by omega⟩) 0).val < 5 from j.isLt)]
      exact lit_zero.trans rzero.symm
    · rw [Finset.sum_range_one, zero_add]
  | n + 1, hn, k => by
    have h25 : n + 1 < 25 := hn
    refine (step_block m c ang pos d h0 h1 h2 h4 hd (n + 1) hn h25 (acc m c anyCells n (Nat.lt_of_succ_lt hn)) _ (fun j => acc_at n (Nat.lt_of_succ_lt hn) j) k).trans ?_
    rw [Finset.sum_range_succ _ (n + 1)]

theorem acc_last (hn : 24 < cfg0.N) (k : Fin 5) : acc m c anyCells 24 hn (cell ⟨k.val, by omega⟩) = ((∑ g, adds ang pos d g k : ℝ) : EReal) := by
  rw [acc_at m c ang pos d h0 h1 h2 h4 hd 24 hn k, Finset.sum_range, ← sum_graphs]
  refine congrArg _ (Finset.sum_congr rfl fun t _ => ?_)
  unfold blockAdds
  rw [dif_pos t.isLt]

/-- The answer after the last point. -/
theorem answer_last (hn : 24 < cfg0.N) (hA : allSq ang pos d ≠ 0) :
    answer (acc m c anyCells 24 hn) (ix2 0 0) = ((stress (allSq ang pos d) (allQuo ang pos d) : ℝ) : EReal) := by
  rw [answer_at _ _ (acc_last m c ang pos d h0 h1 h2 h4 hd hn) hA]
  refine congrArg _ ?_
  show allQuo ang pos d / allSq ang pos d * (allQuo ang pos d / allSq ang pos d) * (∑ g, wt * gSq ang pos d g)
    - 2 * (allQuo ang pos d / allSq ang pos d) * (∑ g, wt * gQuo ang pos d g) + ∑ g : Fin 500, wt * 9900 = _
  rw [← Finset.mul_sum, ← Finset.mul_sum, Finset.sum_const, Finset.card_univ, Fintype.card_fin, nsmul_eq_mul]
  unfold stress allSq allQuo
  norm_num
end

/-! ## The array the kernel writes and the result -/

abbrev lastPoint : Fin cfg0.N := ⟨24, by decide⟩

theorem zero4 : ∀ t : Fin cfg0.N, win0_4.index t 0 = 0 ∧ win0_4.index t 1 = 0 := by decide +kernel
theorem emb4 (t : Fin cfg0.N) (j : S1x1.Idx) : ((cfg0.win 4).blk t).view.emb j = j := by
  obtain ⟨e0, e1⟩ := zero4 t
  funext a; apply Fin.ext
  match a with
  | ⟨0, _⟩ => show win0_4.index t 0 * 1 + 1 * (j 0).val = (j 0).val; rw [e0]; omega
  | ⟨1, _⟩ => show win0_4.index t 1 * 1 + 1 * (j 1).val = (j 1).val; rw [e1]; omega

theorem final_v8 (c : Dev nD) : (dats m 0 c).arrAt 4 cfg0.N = answer (acc m c anyCells 24 lastPoint.isLt) := by
  refine (dats m 0 c).arrAt_eq_of_cover 4 (answer (acc m c anyCells 24 lastPoint.isLt)) (fun t hf => ?_) fun i =>
    ⟨lastPoint, (flush0_4 lastPoint).mpr rfl, ?_⟩
  · have h3 : t.val = 24 := by have h := (flush0_4 t).mp hf; have h' : t.val < 25 := t.isLt; omega
    obtain rfl : t = lastPoint := Fin.ext h3
    show (cfg0.win 4).cut (grid0.coords lastPoint) ((dats m 0 c).after 4 lastPoint) = _
    rw [after4]
    funext j
    show answer (acc m c anyCells 24 lastPoint.isLt) j = answer (acc m c anyCells 24 lastPoint.isLt) (((cfg0.win 4).blk lastPoint).view.emb j)
    rw [emb4]
  · have h := ((cfg0.win 4).blk lastPoint).view.emb_mem_set i
    rw [emb4] at h
    exact h

theorem result_eq (c : Dev nD) : Pipeline.afterTail₀ cfgs (dats m) 0 (V0 m) [hostOps1] c main_v9
    = shapeCast (α := EReal) S_ (answer (acc m c anyCells 24 lastPoint.isLt)) shapeCasts_S1x1_S_ := by
  unfold Pipeline.afterTail₀
  simp only [hostOps1, List.flatten_cons, List.flatten_nil, List.append_nil]
  after_results
  rw [← final_v8]
  have h := Pipeline.withArrays_arr spec0 (by decide) c (V0 m c) (fun w => (dats m 0 c).arrAt w cfg0.N) 4
  exact congrArg (fun x : S1x1.Idx → EReal => shapeCast (α := EReal) S_ x shapeCasts_S1x1_S_) h

end Cert.KernelIdeal.Hand

end
-- ==== Proof.Equal.lean ====
module

public import proofs.«01_k».proof.Proof.Apart
public import proofs.«01_k».proof.Proof.ValueI
public import proofs.«01_k».proof.Proof.FrameR
public import proofs.«01_k».proof.Defs

@[expose] public section

set_option maxRecDepth 16384

noncomputable section

namespace Cert.KernelIdeal.Hand

open Cert.KernelIdeal Cert.KernelIdeal.Gen Cert.Stress
open Idealize.ShloMosaic Idealize.ShloMosaic.TcCoe Idealize.SL.Sem

/-- The kernel ends with its result at the last point's answer, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = shapeCast (α := EReal) S_ (answer (acc m c anyCells 24 lastPoint.isLt)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).2 main_v9 (Pipeline.mem_restRefs_of main_v9 (by decide) (by decide))).trans (result_eq m c), h.2.1 c⟩)
    (θ_run_and (run_main m ρ) (frame m ρ))

end Cert.KernelIdeal.Hand

namespace Cert.ReferenceIdeal.Hand

open Cert.ReferenceIdeal Cert.ReferenceIdeal.Gen Cert.Stress
open Idealize.ShloMosaic Idealize.ShloMosaic.TcCoe Idealize.SL.Sem Idealize.ShloMosaic.StableHlo

/-- The reference ends with its result at `res` of the launch contents, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v203) = res (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1, (h c).2⟩) (Value.run m ρ)

end Cert.ReferenceIdeal.Hand

namespace Cert.Equal

open Cert.Stress
open Idealize.ShloMosaic Idealize.ShloMosaic.TcCoe Idealize.SL.Sem Idealize.ShloMosaic.StableHlo

local instance : Cert.Pre_regular_scene.Facts := Cert.Pre_regular_scene.Hand.facts

section
variable (V0 : Valuation Cert.ReferenceIdeal.τ Cert.ReferenceIdeal.sig (Elt Ideal))
  (m : (ℓ : Loc Cert.KernelIdeal.nD Cert.KernelIdeal.τ Cert.KernelIdeal.sig) → Buf (Elt Ideal) ℓ) (c : Dev Cert.KernelIdeal.nD)

/-- The scene in reals that the reference's arguments hold. -/
def angles (g : Fin 500) (k : Fin 2) : ℝ := ((V0 (Proc.devRef .tc Cert.ReferenceIdeal.main_arg0) : FVec Ideal Cert.ReferenceIdeal.S500x2 .f32) (ix2 g k) : EReal).toReal
def places (n : Fin 50000) (k : Fin 3) : ℝ := ((V0 (Proc.devRef .tc Cert.ReferenceIdeal.main_arg1) : FVec Ideal Cert.ReferenceIdeal.S50000x3 .f32) (ix2 n k) : EReal).toReal
def lengths (e : Fin 4950000) : ℝ := ((V0 (Proc.devRef .tc Cert.ReferenceIdeal.main_arg4) : FVec Ideal Cert.ReferenceIdeal.S4950000x4 .f32) (ix2 e 0) : EReal).toReal

/-- On a regular scene the two programs' results are one number. -/
theorem values
    (k0 : m ((c.tc : Thread Cert.KernelIdeal.nD Cert.KernelIdeal.τ).loc Cert.KernelIdeal.main_arg0) = V0 (Proc.devRef .tc Cert.ReferenceIdeal.main_arg0))
    (k1 : m ((c.tc : Thread Cert.KernelIdeal.nD Cert.KernelIdeal.τ).loc Cert.KernelIdeal.main_arg1) = V0 (Proc.devRef .tc Cert.ReferenceIdeal.main_arg1))
    (k2 : m ((c.tc : Thread Cert.KernelIdeal.nD Cert.KernelIdeal.τ).loc Cert.KernelIdeal.main_arg2) = V0 (Proc.devRef .tc Cert.ReferenceIdeal.main_arg2))
    (k3 : m ((c.tc : Thread Cert.KernelIdeal.nD Cert.KernelIdeal.τ).loc Cert.KernelIdeal.main_arg3) = V0 (Proc.devRef .tc Cert.ReferenceIdeal.main_arg3))
    (k4 : m ((c.tc : Thread Cert.KernelIdeal.nD Cert.KernelIdeal.τ).loc Cert.KernelIdeal.main_arg4) = V0 (Proc.devRef .tc Cert.ReferenceIdeal.main_arg4))
    (k5 : m ((c.tc : Thread Cert.KernelIdeal.nD Cert.KernelIdeal.τ).loc Cert.KernelIdeal.main_arg5) = V0 (Proc.devRef .tc Cert.ReferenceIdeal.main_arg5))
    (hpre : Cert.Pre_KernelIdeal_regular_scene m) :
    Cert.ReferenceIdeal.Hand.res V0 = shapeCast (α := EReal) Cert.KernelIdeal.S_ (Cert.KernelIdeal.Hand.answer (Cert.KernelIdeal.Hand.acc m c Cert.KernelIdeal.Hand.anyCells 24 Cert.KernelIdeal.Hand.lastPoint.isLt)) Cert.KernelIdeal.Gen.shapeCasts_S1x1_S_ := by
  have P := hpre c
  rw [k0, k1, k2, k3, k4, k5] at P
  obtain ⟨p0, p1, p2, p3, p4, p5, p6, p7⟩ := P
  have h0 := Cert.Pre_regular_scene.Hand.angles_real _ _ _ _ _ _ p0
  have h1 := Cert.Pre_regular_scene.Hand.places_real _ _ _ _ _ _ p1
  have h2 := Cert.Pre_regular_scene.Hand.counts_at _ _ _ _ _ _ p2
  have h3s := fun g i k => Cert.Pre_regular_scene.Hand.src_at g i k _ _ _ _ _ _ p3
  have h3d := fun g i k => Cert.Pre_regular_scene.Hand.dst_at g i k _ _ _ _ _ _ p4
  have h4 := Cert.Pre_regular_scene.Hand.dist_real _ _ _ _ _ _ p5
  have hd := Cert.Pre_regular_scene.Hand.dist_pos _ _ _ _ _ _ p5
  have h5 := fun g i => Cert.Pre_regular_scene.Hand.graph_at g i _ _ _ _ _ _ p6
  have p7' := (Cert.Pre_regular_scene.Hand.last0 _ _ _ _ _ _).symm.trans p7
  rw [Cert.Pre_regular_scene.Hand.axes_eq V0] at p7'
  have hA : allSq (angles V0) (places V0) (lengths V0) ≠ 0 :=
    Cert.Pre_regular_scene.Hand.spread V0 (angles V0) (places V0) (lengths V0) h0 h1 h3s h3d h5 hd p7'
  have hr := Cert.ReferenceIdeal.Hand.res_at V0 (angles V0) (places V0) (lengths V0) h0 h1 h2 h3s h3d h4 h5 hd hA
  have hk := Cert.KernelIdeal.Hand.answer_last m c (angles V0) (places V0) (lengths V0)
    (fun g k => (congrFun k0 (ix2 g k)).trans (h0 g k)) (fun n k => (congrFun k1 (ix2 n k)).trans (h1 n k)) (fun g => (congrFun k2 (ix1 g)).trans (h2 g))
    (fun e => (congrFun k4 (ix2 e 0)).trans (h4 e)) (fun e => (hd e).ne') Cert.KernelIdeal.Hand.lastPoint.isLt hA
  have hc : ∀ x : FVec Ideal Cert.KernelIdeal.S1x1 .f32, shapeCast (α := EReal) Cert.KernelIdeal.S_ x Cert.KernelIdeal.Gen.shapeCasts_S1x1_S_ ix0 = x (ix2 0 0) := fun x => by
    pointwise
  funext j
  rw [show j = ix0 from funext fun a => a.elim0]
  exact hr.trans (hk.symm.trans (hc _).symm)
end

/-- On regular scenes the kernel and the reference end with the same result. -/
theorem algebraic : Cert.algebraic_KernelIdeal_ReferenceIdeal_pre_regular_scene (hKernelIdeal := Cert.KernelIdeal.Gen.facts) (hReferenceIdeal := Cert.ReferenceIdeal.Gen.facts)
    (hPre_regular_scene := Cert.Pre_regular_scene.Hand.facts) := by
  intro m ρ m' ρ' hpre hag
  refine ⟨fun c => shapeCast (α := EReal) Cert.KernelIdeal.S_ (Cert.KernelIdeal.Hand.answer (Cert.KernelIdeal.Hand.acc m c Cert.KernelIdeal.Hand.anyCells 24 Cert.KernelIdeal.Hand.lastPoint.isLt)) Cert.KernelIdeal.Gen.shapeCasts_S1x1_S_, ?_, ?_⟩
  · exact Cert.KernelIdeal.Hand.run_value m ρ
  · refine (θ_run Cert.ReferenceIdeal.defs _ _).mono (fun _ h c => ⟨(h c).1.trans ?_, (h c).2⟩) (Cert.ReferenceIdeal.Hand.run_value m' ρ')
    obtain ⟨e0, e1, e2, e3, e4, e5⟩ := hag c
    exact values (launchContents m' c) m c e0.symm e1.symm e2.symm e3.symm e4.symm e5.symm hpre

end Cert.Equal

end
-- ==== Proof.lean ====
module

public import proofs.«01_k».proof.Defs
public import proofs.«01_k».proof.Proof.FrameK
public import proofs.«01_k».proof.Proof.FrameI
public import proofs.«01_k».proof.Proof.FrameR
public import proofs.«01_k».proof.Proof.Equal

@[expose] public section

noncomputable section

namespace Cert.Proof

open Idealize.ShloMosaic Idealize.SL.Sem

/-- The kernel's two readings and the reference leave their arguments unchanged and every counter at zero; the kernel was printed
    for its ideal reading unchanged; on regular scenes the kernel and the reference, both read in the reals, end with one result. -/
theorem claim : Cert.Claim := ⟨Cert.Kernel.Gen.facts, Cert.KernelIdeal.Gen.facts, Cert.ReferenceIdeal.Gen.facts, Cert.Pre_regular_scene.Hand.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Hand.frame m ρ, fun m ρ _ => Cert.ReferenceIdeal.Hand.frame m ρ, trivial, Cert.Equal.algebraic⟩

end Cert.Proof

end
